-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x512x1024 : Shape := ⟨3, ![1, 512, 1024]⟩
abbrev S1024x1024 : Shape := ⟨2, ![1024, 1024]⟩
abbrev S1024x4096 : Shape := ⟨2, ![1024, 4096]⟩
abbrev S_ : Shape := ⟨0, ![]⟩

class Facts : Prop where
  bcast_S_S1x512x1024 : S_.BroadcastsInDim S1x512x1024 (![] : Fin 0 → Fin S1x512x1024.rank)
  bcast_S_S1024x1024 : S_.BroadcastsInDim S1024x1024 (![] : Fin 0 → Fin S1024x1024.rank)
  bcast_S_S1024x4096 : S_.BroadcastsInDim S1024x4096 (![] : Fin 0 → Fin S1024x4096.rank)

variable [Facts]

def fn {F : FTy → Type} [FloatOps F] (main_arg0 : FVec F S1x512x1024 .f32) (main_arg1 : FVec F S1024x1024 .f32) (main_arg2 : FVec F S1024x4096 .f32) (main_arg3 : FVec F S1024x4096 .f32) (main_arg4 : FVec F S1024x1024 .f32) : IVec S1x512x1024 1 × IVec S1024x1024 1 × IVec S1024x4096 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  (main_v2, main_v5, main_v8)
-- ==== Pre_finite_scores_ReferenceIdeal.lean ====
abbrev S1x512x1024 : Shape := ⟨3, ![1, 512, 1024]⟩
abbrev S1024x16384 : Shape := ⟨2, ![1024, 16384]⟩
abbrev S1024x4096 : Shape := ⟨2, ![1024, 4096]⟩
abbrev S16384x1024 : Shape := ⟨2, ![16384, 1024]⟩
abbrev S_ : Shape := ⟨0, ![]⟩

class Facts : Prop where
  bcast_S_S1x512x1024 : S_.BroadcastsInDim S1x512x1024 (![] : Fin 0 → Fin S1x512x1024.rank)
  bcast_S_S1024x16384 : S_.BroadcastsInDim S1024x16384 (![] : Fin 0 → Fin S1024x16384.rank)
  bcast_S_S1024x4096 : S_.BroadcastsInDim S1024x4096 (![] : Fin 0 → Fin S1024x4096.rank)

variable [Facts]

def fn {F : FTy → Type} [FloatOps F] (main_arg0 : FVec F S1x512x1024 .f32) (main_arg1 : FVec F S1024x16384 .f32) (main_arg2 : FVec F S1024x4096 .f32) (main_arg3 : FVec F S1024x4096 .f32) (main_arg4 : FVec F S16384x1024 .f32) : IVec S1x512x1024 1 × IVec S1024x16384 1 × IVec S1024x4096 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  (main_v2, main_v5, main_v8)
-- ==== Kernel.lean ====
abbrev S1x512x1024 : Shape := ⟨3, ![1, 512, 1024]⟩
abbrev S1024x1024 : Shape := ⟨2, ![1024, 1024]⟩
abbrev S1024x4096 : Shape := ⟨2, ![1024, 4096]⟩
abbrev S16x32x1024 : Shape := ⟨3, ![16, 32, 1024]⟩
abbrev S1024x256 : Shape := ⟨2, ![1024, 256]⟩
abbrev S2 : Shape := ⟨1, ![2]⟩
abbrev S16 : Shape := ⟨1, ![16]⟩
abbrev S1 : Shape := ⟨1, ![1]⟩
abbrev S_ : Shape := ⟨0, ![]⟩
abbrev S512x1024 : Shape := ⟨2, ![512, 1024]⟩
abbrev S512x256 : Shape := ⟨2, ![512, 256]⟩
abbrev S512x128 : Shape := ⟨2, ![512, 128]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩
abbrev S1x32x1024 : Shape := ⟨3, ![1, 32, 1024]⟩
abbrev S32x1024 : Shape := ⟨2, ![32, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x4096, .f32⟩
  | .hbm, ⟨3, _⟩ => ⟨S1024x4096, .f32⟩
  | .hbm, ⟨4, _⟩ => ⟨S1024x1024, .f32⟩
  | .hbm, ⟨5, _⟩ => ⟨S16x32x1024, .bf16⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S16x32x1024, .bf16⟩
  | .local _ .vmem, ⟨4, _⟩ => ⟨S1024x256, .f32⟩
  | .local _ .vmem, ⟨5, _⟩ => ⟨S1024x256, .f32⟩
  | .local _ .vmem, ⟨6, _⟩ => ⟨S16x32x1024, .bf16⟩
  | .local _ .vmem, ⟨7, _⟩ => ⟨S16x32x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v3 : BitVec 32 := Scalar.muli v2 c256_i32
  ![0, v3.toNat]
def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4 : BitVec 32 := 1#32
  let v12 : BitVec 32 := Scalar.addi v2 c1_i32_4
  let c16_i32_5 : BitVec 32 := 16#32
  let v13 : BitVec 32 := Scalar.remsi v12 c16_i32_5
  let c1_i32_7 : BitVec 32 := 1#32
  let v14 : BitVec 32 := Scalar.muli v13 c1_i32_7
  let v15 : BitVec 32 := Scalar.addi c0_i32_8 v14
  v15.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v16 : BitVec 32 := Scalar.addi v2 c2_i32
  let c16_i32_9 : BitVec 32 := 16#32
  let v17 : BitVec 32 := Scalar.remsi v16 c16_i32_9
  let c1_i32_11 : BitVec 32 := 1#32
  let v18 : BitVec 32 := Scalar.muli v17 c1_i32_11
  let v19 : BitVec 32 := Scalar.addi c0_i32_12 v18
  v19.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v20 : BitVec 32 := Scalar.addi v2 c3_i32
  let c16_i32_13 : BitVec 32 := 16#32
  let v21 : BitVec 32 := Scalar.remsi v20 c16_i32_13
  let c1_i32_15 : BitVec 32 := 1#32
  let v22 : BitVec 32 := Scalar.muli v21 c1_i32_15
  let v23 : BitVec 32 := Scalar.addi c0_i32_16 v22
  v23.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v24 : BitVec 32 := Scalar.addi v2 c4_i32
  let c16_i32_17 : BitVec 32 := 16#32
  let v25 : BitVec 32 := Scalar.remsi v24 c16_i32_17
  let c1_i32_19 : BitVec 32 := 1#32
  let v26 : BitVec 32 := Scalar.muli v25 c1_i32_19
  let v27 : BitVec 32 := Scalar.addi c0_i32_20 v26
  v27.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v28 : BitVec 32 := Scalar.addi v2 c5_i32
  let c16_i32_21 : BitVec 32 := 16#32
  let v29 : BitVec 32 := Scalar.remsi v28 c16_i32_21
  let c1_i32_23 : BitVec 32 := 1#32
  let v30 : BitVec 32 := Scalar.muli v29 c1_i32_23
  let v31 : BitVec 32 := Scalar.addi c0_i32_24 v30
  v31.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v32 : BitVec 32 := Scalar.addi v2 c6_i32
  let c16_i32_25 : BitVec 32 := 16#32
  let v33 : BitVec 32 := Scalar.remsi v32 c16_i32_25
  let c1_i32_27 : BitVec 32 := 1#32
  let v34 : BitVec 32 := Scalar.muli v33 c1_i32_27
  let v35 : BitVec 32 := Scalar.addi c0_i32_28 v34
  v35.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v36 : BitVec 32 := Scalar.addi v2 c7_i32
  let c16_i32_29 : BitVec 32 := 16#32
  let v37 : BitVec 32 := Scalar.remsi v36 c16_i32_29
  let c1_i32_31 : BitVec 32 := 1#32
  let v38 : BitVec 32 := Scalar.muli v37 c1_i32_31
  let v39 : BitVec 32 := Scalar.addi c0_i32_32 v38
  v39.toNat
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v40 : BitVec 32 := Scalar.addi v2 c8_i32
  let c16_i32_33 : BitVec 32 := 16#32
  let v41 : BitVec 32 := Scalar.remsi v40 c16_i32_33
  let c1_i32_35 : BitVec 32 := 1#32
  let v42 : BitVec 32 := Scalar.muli v41 c1_i32_35
  let v43 : BitVec 32 := Scalar.addi c0_i32_36 v42
  v43.toNat
def k0_dev9 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v44 : BitVec 32 := Scalar.addi v2 c9_i32
  let c16_i32_37 : BitVec 32 := 16#32
  let v45 : BitVec 32 := Scalar.remsi v44 c16_i32_37
  let c1_i32_39 : BitVec 32 := 1#32
  let v46 : BitVec 32 := Scalar.muli v45 c1_i32_39
  let v47 : BitVec 32 := Scalar.addi c0_i32_40 v46
  v47.toNat
def k0_dev10 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v48 : BitVec 32 := Scalar.addi v2 c10_i32
  let c16_i32_41 : BitVec 32 := 16#32
  let v49 : BitVec 32 := Scalar.remsi v48 c16_i32_41
  let c1_i32_43 : BitVec 32 := 1#32
  let v50 : BitVec 32 := Scalar.muli v49 c1_i32_43
  let v51 : BitVec 32 := Scalar.addi c0_i32_44 v50
  v51.toNat
def k0_dev11 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v52 : BitVec 32 := Scalar.addi v2 c11_i32
  let c16_i32_45 : BitVec 32 := 16#32
  let v53 : BitVec 32 := Scalar.remsi v52 c16_i32_45
  let c1_i32_47 : BitVec 32 := 1#32
  let v54 : BitVec 32 := Scalar.muli v53 c1_i32_47
  let v55 : BitVec 32 := Scalar.addi c0_i32_48 v54
  v55.toNat
def k0_dev12 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v56 : BitVec 32 := Scalar.addi v2 c12_i32
  let c16_i32_49 : BitVec 32 := 16#32
  let v57 : BitVec 32 := Scalar.remsi v56 c16_i32_49
  let c1_i32_51 : BitVec 32 := 1#32
  let v58 : BitVec 32 := Scalar.muli v57 c1_i32_51
  let v59 : BitVec 32 := Scalar.addi c0_i32_52 v58
  v59.toNat
def k0_dev13 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v60 : BitVec 32 := Scalar.addi v2 c13_i32
  let c16_i32_53 : BitVec 32 := 16#32
  let v61 : BitVec 32 := Scalar.remsi v60 c16_i32_53
  let c1_i32_55 : BitVec 32 := 1#32
  let v62 : BitVec 32 := Scalar.muli v61 c1_i32_55
  let v63 : BitVec 32 := Scalar.addi c0_i32_56 v62
  v63.toNat
def k0_dev14 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v64 : BitVec 32 := Scalar.addi v2 c14_i32
  let c16_i32_57 : BitVec 32 := 16#32
  let v65 : BitVec 32 := Scalar.remsi v64 c16_i32_57
  let c1_i32_59 : BitVec 32 := 1#32
  let v66 : BitVec 32 := Scalar.muli v65 c1_i32_59
  let v67 : BitVec 32 := Scalar.addi c0_i32_60 v66
  v67.toNat
def k0_dev15 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v68 : BitVec 32 := Scalar.addi v2 c15_i32
  let c16_i32_61 : BitVec 32 := 16#32
  let v69 : BitVec 32 := Scalar.remsi v68 c16_i32_61
  let c1_i32_63 : BitVec 32 := 1#32
  let v70 : BitVec 32 := Scalar.muli v69 c1_i32_63
  let v71 : BitVec 32 := Scalar.addi c0_i32_64 v70
  v71.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v157 : Index := Scalar.indexCast v2
  let c0_94 : Index := 0#32
  let c0_95 : Index := 0#32
  ![v157.toNat, 0, 0]
def k0_off3 (d0 : Dev nD) (c1_i32_99 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v164 : BitVec 32 := Scalar.addi v2 c1_i32_99
  let c16_i32_100 : BitVec 32 := 16#32
  let v165 : BitVec 32 := Scalar.remsi v164 c16_i32_100
  ![v165.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_off6 (d0 : Dev nD) (c1_i32_99 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v164 : BitVec 32 := Scalar.addi v2 c1_i32_99
  let c16_i32_100 : BitVec 32 := 16#32
  let v165 : BitVec 32 := Scalar.remsi v164 c16_i32_100
  let c0_i32_105 : BitVec 32 := 0#32
  let c0_i32_106 : BitVec 32 := 0#32
  ![v165.toNat, 0, 0]
def k0_dev16 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_99 : BitVec 32 := 1#32
  let v164 : BitVec 32 := Scalar.addi v2 c1_i32_99
  let c16_i32_100 : BitVec 32 := 16#32
  let v165 : BitVec 32 := Scalar.remsi v164 c16_i32_100
  let c1_i32_101 : BitVec 32 := 1#32
  let v166 : BitVec 32 := Scalar.muli v165 c1_i32_101
  let v167 : BitVec 32 := Scalar.addi c0_i32_102 v166
  v167.toNat
def k0_dev17 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_107 : BitVec 32 := 2#32
  let v176 : BitVec 32 := Scalar.addi v2 c2_i32_107
  let c16_i32_108 : BitVec 32 := 16#32
  let v177 : BitVec 32 := Scalar.remsi v176 c16_i32_108
  let c1_i32_109 : BitVec 32 := 1#32
  let v178 : BitVec 32 := Scalar.muli v177 c1_i32_109
  let v179 : BitVec 32 := Scalar.addi c0_i32_110 v178
  v179.toNat
def k0_dev18 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_115 : BitVec 32 := 3#32
  let v188 : BitVec 32 := Scalar.addi v2 c3_i32_115
  let c16_i32_116 : BitVec 32 := 16#32
  let v189 : BitVec 32 := Scalar.remsi v188 c16_i32_116
  let c1_i32_117 : BitVec 32 := 1#32
  let v190 : BitVec 32 := Scalar.muli v189 c1_i32_117
  let v191 : BitVec 32 := Scalar.addi c0_i32_118 v190
  v191.toNat
def k0_dev19 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_123 : BitVec 32 := 4#32
  let v200 : BitVec 32 := Scalar.addi v2 c4_i32_123
  let c16_i32_124 : BitVec 32 := 16#32
  let v201 : BitVec 32 := Scalar.remsi v200 c16_i32_124
  let c1_i32_125 : BitVec 32 := 1#32
  let v202 : BitVec 32 := Scalar.muli v201 c1_i32_125
  let v203 : BitVec 32 := Scalar.addi c0_i32_126 v202
  v203.toNat
def k0_dev20 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_131 : BitVec 32 := 5#32
  let v212 : BitVec 32 := Scalar.addi v2 c5_i32_131
  let c16_i32_132 : BitVec 32 := 16#32
  let v213 : BitVec 32 := Scalar.remsi v212 c16_i32_132
  let c1_i32_133 : BitVec 32 := 1#32
  let v214 : BitVec 32 := Scalar.muli v213 c1_i32_133
  let v215 : BitVec 32 := Scalar.addi c0_i32_134 v214
  v215.toNat
def k0_dev21 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_139 : BitVec 32 := 6#32
  let v224 : BitVec 32 := Scalar.addi v2 c6_i32_139
  let c16_i32_140 : BitVec 32 := 16#32
  let v225 : BitVec 32 := Scalar.remsi v224 c16_i32_140
  let c1_i32_141 : BitVec 32 := 1#32
  let v226 : BitVec 32 := Scalar.muli v225 c1_i32_141
  let v227 : BitVec 32 := Scalar.addi c0_i32_142 v226
  v227.toNat
def k0_dev22 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_147 : BitVec 32 := 7#32
  let v236 : BitVec 32 := Scalar.addi v2 c7_i32_147
  let c16_i32_148 : BitVec 32 := 16#32
  let v237 : BitVec 32 := Scalar.remsi v236 c16_i32_148
  let c1_i32_149 : BitVec 32 := 1#32
  let v238 : BitVec 32 := Scalar.muli v237 c1_i32_149
  let v239 : BitVec 32 := Scalar.addi c0_i32_150 v238
  v239.toNat
def k0_dev23 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_155 : BitVec 32 := 8#32
  let v248 : BitVec 32 := Scalar.addi v2 c8_i32_155
  let c16_i32_156 : BitVec 32 := 16#32
  let v249 : BitVec 32 := Scalar.remsi v248 c16_i32_156
  let c1_i32_157 : BitVec 32 := 1#32
  let v250 : BitVec 32 := Scalar.muli v249 c1_i32_157
  let v251 : BitVec 32 := Scalar.addi c0_i32_158 v250
  v251.toNat
def k0_dev24 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_163 : BitVec 32 := 9#32
  let v260 : BitVec 32 := Scalar.addi v2 c9_i32_163
  let c16_i32_164 : BitVec 32 := 16#32
  let v261 : BitVec 32 := Scalar.remsi v260 c16_i32_164
  let c1_i32_165 : BitVec 32 := 1#32
  let v262 : BitVec 32 := Scalar.muli v261 c1_i32_165
  let v263 : BitVec 32 := Scalar.addi c0_i32_166 v262
  v263.toNat
def k0_dev25 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_171 : BitVec 32 := 10#32
  let v272 : BitVec 32 := Scalar.addi v2 c10_i32_171
  let c16_i32_172 : BitVec 32 := 16#32
  let v273 : BitVec 32 := Scalar.remsi v272 c16_i32_172
  let c1_i32_173 : BitVec 32 := 1#32
  let v274 : BitVec 32 := Scalar.muli v273 c1_i32_173
  let v275 : BitVec 32 := Scalar.addi c0_i32_174 v274
  v275.toNat
def k0_dev26 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_179 : BitVec 32 := 11#32
  let v284 : BitVec 32 := Scalar.addi v2 c11_i32_179
  let c16_i32_180 : BitVec 32 := 16#32
  let v285 : BitVec 32 := Scalar.remsi v284 c16_i32_180
  let c1_i32_181 : BitVec 32 := 1#32
  let v286 : BitVec 32 := Scalar.muli v285 c1_i32_181
  let v287 : BitVec 32 := Scalar.addi c0_i32_182 v286
  v287.toNat
def k0_dev27 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_187 : BitVec 32 := 12#32
  let v296 : BitVec 32 := Scalar.addi v2 c12_i32_187
  let c16_i32_188 : BitVec 32 := 16#32
  let v297 : BitVec 32 := Scalar.remsi v296 c16_i32_188
  let c1_i32_189 : BitVec 32 := 1#32
  let v298 : BitVec 32 := Scalar.muli v297 c1_i32_189
  let v299 : BitVec 32 := Scalar.addi c0_i32_190 v298
  v299.toNat
def k0_dev28 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_195 : BitVec 32 := 13#32
  let v308 : BitVec 32 := Scalar.addi v2 c13_i32_195
  let c16_i32_196 : BitVec 32 := 16#32
  let v309 : BitVec 32 := Scalar.remsi v308 c16_i32_196
  let c1_i32_197 : BitVec 32 := 1#32
  let v310 : BitVec 32 := Scalar.muli v309 c1_i32_197
  let v311 : BitVec 32 := Scalar.addi c0_i32_198 v310
  v311.toNat
def k0_dev29 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_203 : BitVec 32 := 14#32
  let v320 : BitVec 32 := Scalar.addi v2 c14_i32_203
  let c16_i32_204 : BitVec 32 := 16#32
  let v321 : BitVec 32 := Scalar.remsi v320 c16_i32_204
  let c1_i32_205 : BitVec 32 := 1#32
  let v322 : BitVec 32 := Scalar.muli v321 c1_i32_205
  let v323 : BitVec 32 := Scalar.addi c0_i32_206 v322
  v323.toNat
def k0_dev30 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_211 : BitVec 32 := 15#32
  let v332 : BitVec 32 := Scalar.addi v2 c15_i32_211
  let c16_i32_212 : BitVec 32 := 16#32
  let v333 : BitVec 32 := Scalar.remsi v332 c16_i32_212
  let c1_i32_213 : BitVec 32 := 1#32
  let v334 : BitVec 32 := Scalar.muli v333 c1_i32_213
  let v335 : BitVec 32 := Scalar.addi c0_i32_214 v334
  v335.toNat
def k0_dev31 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_345 : BitVec 32 := 1#32
  let v502 : BitVec 32 := Scalar.addi v2 c1_i32_345
  let c16_i32_346 : BitVec 32 := 16#32
  let v503 : BitVec 32 := Scalar.remsi v502 c16_i32_346
  let c1_i32_347 : BitVec 32 := 1#32
  let v504 : BitVec 32 := Scalar.muli v503 c1_i32_347
  let v505 : BitVec 32 := Scalar.addi c0_i32_348 v504
  v505.toNat
def k0_dev32 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_353 : BitVec 32 := 2#32
  let v514 : BitVec 32 := Scalar.addi v2 c2_i32_353
  let c16_i32_354 : BitVec 32 := 16#32
  let v515 : BitVec 32 := Scalar.remsi v514 c16_i32_354
  let c1_i32_355 : BitVec 32 := 1#32
  let v516 : BitVec 32 := Scalar.muli v515 c1_i32_355
  let v517 : BitVec 32 := Scalar.addi c0_i32_356 v516
  v517.toNat
def k0_dev33 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_361 : BitVec 32 := 3#32
  let v526 : BitVec 32 := Scalar.addi v2 c3_i32_361
  let c16_i32_362 : BitVec 32 := 16#32
  let v527 : BitVec 32 := Scalar.remsi v526 c16_i32_362
  let c1_i32_363 : BitVec 32 := 1#32
  let v528 : BitVec 32 := Scalar.muli v527 c1_i32_363
  let v529 : BitVec 32 := Scalar.addi c0_i32_364 v528
  v529.toNat
def k0_dev34 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_369 : BitVec 32 := 4#32
  let v538 : BitVec 32 := Scalar.addi v2 c4_i32_369
  let c16_i32_370 : BitVec 32 := 16#32
  let v539 : BitVec 32 := Scalar.remsi v538 c16_i32_370
  let c1_i32_371 : BitVec 32 := 1#32
  let v540 : BitVec 32 := Scalar.muli v539 c1_i32_371
  let v541 : BitVec 32 := Scalar.addi c0_i32_372 v540
  v541.toNat
def k0_dev35 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_377 : BitVec 32 := 5#32
  let v550 : BitVec 32 := Scalar.addi v2 c5_i32_377
  let c16_i32_378 : BitVec 32 := 16#32
  let v551 : BitVec 32 := Scalar.remsi v550 c16_i32_378
  let c1_i32_379 : BitVec 32 := 1#32
  let v552 : BitVec 32 := Scalar.muli v551 c1_i32_379
  let v553 : BitVec 32 := Scalar.addi c0_i32_380 v552
  v553.toNat
def k0_dev36 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_385 : BitVec 32 := 6#32
  let v562 : BitVec 32 := Scalar.addi v2 c6_i32_385
  let c16_i32_386 : BitVec 32 := 16#32
  let v563 : BitVec 32 := Scalar.remsi v562 c16_i32_386
  let c1_i32_387 : BitVec 32 := 1#32
  let v564 : BitVec 32 := Scalar.muli v563 c1_i32_387
  let v565 : BitVec 32 := Scalar.addi c0_i32_388 v564
  v565.toNat
def k0_dev37 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_393 : BitVec 32 := 7#32
  let v574 : BitVec 32 := Scalar.addi v2 c7_i32_393
  let c16_i32_394 : BitVec 32 := 16#32
  let v575 : BitVec 32 := Scalar.remsi v574 c16_i32_394
  let c1_i32_395 : BitVec 32 := 1#32
  let v576 : BitVec 32 := Scalar.muli v575 c1_i32_395
  let v577 : BitVec 32 := Scalar.addi c0_i32_396 v576
  v577.toNat
def k0_dev38 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_401 : BitVec 32 := 8#32
  let v586 : BitVec 32 := Scalar.addi v2 c8_i32_401
  let c16_i32_402 : BitVec 32 := 16#32
  let v587 : BitVec 32 := Scalar.remsi v586 c16_i32_402
  let c1_i32_403 : BitVec 32 := 1#32
  let v588 : BitVec 32 := Scalar.muli v587 c1_i32_403
  let v589 : BitVec 32 := Scalar.addi c0_i32_404 v588
  v589.toNat
def k0_dev39 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_409 : BitVec 32 := 9#32
  let v598 : BitVec 32 := Scalar.addi v2 c9_i32_409
  let c16_i32_410 : BitVec 32 := 16#32
  let v599 : BitVec 32 := Scalar.remsi v598 c16_i32_410
  let c1_i32_411 : BitVec 32 := 1#32
  let v600 : BitVec 32 := Scalar.muli v599 c1_i32_411
  let v601 : BitVec 32 := Scalar.addi c0_i32_412 v600
  v601.toNat
def k0_dev40 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_417 : BitVec 32 := 10#32
  let v610 : BitVec 32 := Scalar.addi v2 c10_i32_417
  let c16_i32_418 : BitVec 32 := 16#32
  let v611 : BitVec 32 := Scalar.remsi v610 c16_i32_418
  let c1_i32_419 : BitVec 32 := 1#32
  let v612 : BitVec 32 := Scalar.muli v611 c1_i32_419
  let v613 : BitVec 32 := Scalar.addi c0_i32_420 v612
  v613.toNat
def k0_dev41 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_425 : BitVec 32 := 11#32
  let v622 : BitVec 32 := Scalar.addi v2 c11_i32_425
  let c16_i32_426 : BitVec 32 := 16#32
  let v623 : BitVec 32 := Scalar.remsi v622 c16_i32_426
  let c1_i32_427 : BitVec 32 := 1#32
  let v624 : BitVec 32 := Scalar.muli v623 c1_i32_427
  let v625 : BitVec 32 := Scalar.addi c0_i32_428 v624
  v625.toNat
def k0_dev42 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_433 : BitVec 32 := 12#32
  let v634 : BitVec 32 := Scalar.addi v2 c12_i32_433
  let c16_i32_434 : BitVec 32 := 16#32
  let v635 : BitVec 32 := Scalar.remsi v634 c16_i32_434
  let c1_i32_435 : BitVec 32 := 1#32
  let v636 : BitVec 32 := Scalar.muli v635 c1_i32_435
  let v637 : BitVec 32 := Scalar.addi c0_i32_436 v636
  v637.toNat
def k0_dev43 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_441 : BitVec 32 := 13#32
  let v646 : BitVec 32 := Scalar.addi v2 c13_i32_441
  let c16_i32_442 : BitVec 32 := 16#32
  let v647 : BitVec 32 := Scalar.remsi v646 c16_i32_442
  let c1_i32_443 : BitVec 32 := 1#32
  let v648 : BitVec 32 := Scalar.muli v647 c1_i32_443
  let v649 : BitVec 32 := Scalar.addi c0_i32_444 v648
  v649.toNat
def k0_dev44 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_449 : BitVec 32 := 14#32
  let v658 : BitVec 32 := Scalar.addi v2 c14_i32_449
  let c16_i32_450 : BitVec 32 := 16#32
  let v659 : BitVec 32 := Scalar.remsi v658 c16_i32_450
  let c1_i32_451 : BitVec 32 := 1#32
  let v660 : BitVec 32 := Scalar.muli v659 c1_i32_451
  let v661 : BitVec 32 := Scalar.addi c0_i32_452 v660
  v661.toNat
def k0_dev45 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_457 : BitVec 32 := 15#32
  let v670 : BitVec 32 := Scalar.addi v2 c15_i32_457
  let c16_i32_458 : BitVec 32 := 16#32
  let v671 : BitVec 32 := Scalar.remsi v670 c16_i32_458
  let c1_i32_459 : BitVec 32 := 1#32
  let v672 : BitVec 32 := Scalar.muli v671 c1_i32_459
  let v673 : BitVec 32 := Scalar.addi c0_i32_460 v672
  v673.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x512x1024 : Shape := ⟨3, ![1, 512, 1024]⟩
abbrev S1024x16384 : Shape := ⟨2, ![1024, 16384]⟩
abbrev S1024x4096 : Shape := ⟨2, ![1024, 4096]⟩
abbrev S16384x1024 : Shape := ⟨2, ![16384, 1024]⟩
abbrev S1x512x16384 : Shape := ⟨3, ![1, 512, 16384]⟩
abbrev S1x512x128x128 : Shape := ⟨4, ![1, 512, 128, 128]⟩
abbrev S1x512x4096 : Shape := ⟨3, ![1, 512, 4096]⟩
abbrev S1x512x32x128 : Shape := ⟨4, ![1, 512, 32, 128]⟩
abbrev S1x512x32x4x128 : Shape := ⟨5, ![1, 512, 32, 4, 128]⟩
abbrev S_ : Shape := ⟨0, ![]⟩
abbrev S1x128x512x1 : Shape := ⟨4, ![1, 128, 512, 1]⟩
abbrev S1x128x512x512 : Shape := ⟨4, ![1, 128, 512, 512]⟩
abbrev S1x128x512 : Shape := ⟨3, ![1, 128, 512]⟩
abbrev S1x512x128x1 : Shape := ⟨4, ![1, 512, 128, 1]⟩
abbrev S1x128x128x512 : Shape := ⟨4, ![1, 128, 128, 512]⟩
abbrev S16x32x1024 : Shape := ⟨3, ![16, 32, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x16384, .f32⟩
  | .hbm, ⟨2, _⟩ => ⟨S1024x4096, .f32⟩
  | .hbm, ⟨3, _⟩ => ⟨S1024x4096, .f32⟩
  | .hbm, ⟨4, _⟩ => ⟨S16384x1024, .f32⟩
  | .hbm, ⟨5, _⟩ => ⟨S1x512x16384, .f32⟩
  | .hbm, ⟨6, _⟩ => ⟨S1x512x128x128, .f32⟩
  | .hbm, ⟨7, _⟩ => ⟨S1x512x4096, .f32⟩
  | .hbm, ⟨8, _⟩ => ⟨S1x512x32x128, .f32⟩
  | .hbm, ⟨9, _⟩ => ⟨S1x512x4096, .f32⟩
  | .hbm, ⟨10, _⟩ => ⟨S1x512x32x128, .f32⟩
  | .hbm, ⟨11, _⟩ => ⟨S1x512x32x4x128, .f32⟩
  | .hbm, ⟨12, _⟩ => ⟨S1x512x128x128, .f32⟩
  | .hbm, ⟨13, _⟩ => ⟨S1x512x32x4x128, .f32⟩
  | .hbm, ⟨14, _⟩ => ⟨S1x512x128x128, .f32⟩
  | .hbm, ⟨15, _⟩ => ⟨S_, .f32⟩
  | .hbm, ⟨16, _⟩ => ⟨S1x512x128x128, .f32⟩
  | .hbm, ⟨17, _⟩ => ⟨S_, .f32⟩
  | .hbm, ⟨18, _⟩ => ⟨S1x128x512x1, .f32⟩
  | .hbm, ⟨19, _⟩ => ⟨S_, .f32⟩
  | .hbm, ⟨20, _⟩ => ⟨S1x128x512x1, .f32⟩
  | .hbm, ⟨21, _⟩ => ⟨S1x128x512x512, .f32⟩
  | .hbm, ⟨22, _⟩ => ⟨S_, .f32⟩
  | .hbm, ⟨23, _⟩ => ⟨S1x128x512x512, .f32⟩
  | .hbm, ⟨24, _⟩ => ⟨S1x128x512x512, .f32⟩
  | .hbm, ⟨25, _⟩ => ⟨S_, .f32⟩
  | .hbm, ⟨26, _⟩ => ⟨S1x128x512, .f32⟩
  | .hbm, ⟨27, _⟩ => ⟨S1x128x512x1, .f32⟩
  | .hbm, ⟨28, _⟩ => ⟨S1x128x512x1, .f32⟩
  | .hbm, ⟨29, _⟩ => ⟨S1x128x512x1, .f32⟩
  | .hbm, ⟨30, _⟩ => ⟨S1x128x512x1, .f32⟩
  | .hbm, ⟨31, _⟩ => ⟨S1x128x512x512, .f32⟩
  | .hbm, ⟨32, _⟩ => ⟨S1x128x512x512, .f32⟩
  | .hbm, ⟨33, _⟩ => ⟨S1x128x512x512, .f32⟩
  | .hbm, ⟨34, _⟩ => ⟨S1x128x512x1, .f32⟩
  | .hbm, ⟨35, _⟩ => ⟨S_, .f32⟩
  | .hbm, ⟨36, _⟩ => ⟨S1x128x512, .f32⟩
  | .hbm, ⟨37, _⟩ => ⟨S1x128x512x1, .f32⟩
  | .hbm, ⟨38, _⟩ => ⟨S1x128x512x1, .f32⟩
  | .hbm, ⟨39, _⟩ => ⟨S1x512x128x1, .f32⟩
  | .hbm, ⟨40, _⟩ => ⟨S1x512x128x128, .f32⟩
  | .hbm, ⟨41, _⟩ => ⟨S1x512x128x128, .f32⟩
  | .hbm, ⟨42, _⟩ => ⟨S1x128x128x512, .f32⟩
  | .hbm, ⟨43, _⟩ => ⟨S1x512x128x128, .f32⟩
  | .hbm, ⟨44, _⟩ => ⟨S1x512x128x128, .f32⟩
  | .hbm, ⟨45, _⟩ => ⟨S1x512x128x1, .f32⟩
  | .hbm, ⟨46, _⟩ => ⟨S1x512x128x128, .f32⟩
  | .hbm, ⟨47, _⟩ => ⟨S1x512x128x128, .f32⟩
  | .hbm, ⟨48, _⟩ => ⟨S1x512x16384, .f32⟩
  | .hbm, ⟨49, _⟩ => ⟨S1x512x1024, .f32⟩
  | .hbm, ⟨50, _⟩ => ⟨S1x512x1024, .bf16⟩
  | .hbm, ⟨51, _⟩ => ⟨S16x32x1024, .bf16⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Proof.Slots.lean ====
/-
# The sixteen slots of an exchange buffer

The three buffers the devices exchange through — the partial results, the received partial results, and the result —
each have sixteen slots of 32 rows by 1024 columns, slot `s` the view squeezed out of the buffer at offset `(s, 0, 0)`.
Here: where a slot sits in its buffer, that the sixteen slots are disjoint and cover it, what a transfer from one slot
into another leaves there, and the semaphores of an array picked by a slot number.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ViewIndex
public import Idealize.ShloMosaic.Lib.ValueIdxCore

@[expose] public section

set_option maxRecDepth 16384

noncomputable section

namespace Cert.Exchange

open Cert.KernelIdeal Cert.KernelIdeal.Gen
open Idealize.ShloMosaic
open Idealize.ShloMosaic.TcCoe
open Idealize.ShloMosaic.ValueIdx

/-! ## A slot's place -/

theorem slot_inb (s : Fin 16) : ∀ a, (![s.val, 0, 0] : Fin 3 → ℕ) a + S1x32x1024.size a ≤ S16x32x1024.size a := by
  intro a
  have := s.isLt
  fin_cases a
  · show s.val + 1 ≤ 16; omega
  · show 0 + 32 ≤ 32; omega
  · show 0 + 1024 ≤ 1024; omega

/-- The rectangle of slot `s`. -/
abbrev slotR (s : Fin 16) : Rect S16x32x1024 := Rect.unit (s := S16x32x1024) ![s.val, 0, 0] S1x32x1024.size (slot_inb s)

/-- Slot `s` of the buffer `M`, as the transfers name it. -/
abbrev slotM {sp : Space} (M : Memref sig .tc sp S16x32x1024 .bf16) (s : Fin 16) : Memref sig .tc sp S32x1024 .bf16 :=
  (M.slice (slotR s) (fun _ => rfl)).squeeze S32x1024 squeezes_S1x32x1024_S32x1024

theorem exists_ix2 (x : S32x1024.Idx) : ∃ (a : Fin 32) (b : Fin 1024), x = ix2 a b := ⟨x 0, x 1, eq_ix2 x⟩
theorem exists_ix3 (x : S16x32x1024.Idx) : ∃ (s : Fin 16) (a : Fin 32) (b : Fin 1024), x = ix3 s a b := ⟨x 0, x 1, x 2, eq_ix3 x⟩
theorem exists_ix3_block (x : S1x32x1024.Idx) : ∃ (a : Fin 32) (b : Fin 1024), x = ix3 (0 : Fin 1) a b :=
  ⟨x 1, x 2, Shape.idx3_ext (Nat.lt_one_iff.mp (x 0).isLt) rfl rfl⟩

theorem slotR_emb (s : Fin 16) (a : Fin 32) (b : Fin 1024) : (slotR s).emb (ix3 (0 : Fin 1) a b : S1x32x1024.Idx) = ix3 s a b := by
  refine Shape.idx3_ext ?_ ?_ ?_
  · show s.val + 1 * 0 = s.val; omega
  · show 0 + 1 * a.val = a.val; omega
  · show 0 + 1 * b.val = b.val; omega

theorem slot_emb {sp : Space} (M : Memref sig .tc sp S16x32x1024 .bf16) (s : Fin 16) (a : Fin 32) (b : Fin 1024) :
    (slotM M s).view.emb (ix2 a b) = M.view.emb (ix3 s a b) := by
  show M.view.emb ((slotR s).emb (Shape.reshapeEquiv _ (ix2 a b))) = _
  have h : (slotR s).emb (ix3 (0 : Fin 1) a b : S1x32x1024.Idx) = ix3 s a b := slotR_emb s a b
  rw [← h]
  refine congrArg _ (congrArg _ (Shape.reshapeEquiv_eq_of_rowMajor _ ?_))
  rw [Shape.rowMajor_val_three, Shape.rowMajor_val_two]
  show (0 * 32 + a.val) * 1024 + b.val = a.val * 1024 + b.val
  omega

theorem mem_slot {sp : Space} (M : Memref sig .tc sp S16x32x1024 .bf16) (s s' : Fin 16) (a : Fin 32) (b : Fin 1024) :
    M.view.emb (ix3 s' a b) ∈ (slotM M s).view.set ↔ s' = s := by
  constructor
  · intro h
    obtain ⟨x, -, hx⟩ := Finset.mem_map.mp h
    obtain ⟨a', b', rfl⟩ := exists_ix2 x
    rw [slot_emb] at hx
    exact (congrFun (M.view.emb.injective hx) 0).symm
  · rintro rfl
    rw [← slot_emb]
    exact View.emb_mem_set _ _

theorem slots_disjoint {sp : Space} (M : Memref sig .tc sp S16x32x1024 .bf16) {s s' : Fin 16} (h : s ≠ s') :
    Disjoint (slotM M s).view.set (slotM M s').view.set := by
  refine Finset.disjoint_left.mpr fun i hi hi' => h ?_
  obtain ⟨x, -, rfl⟩ := Finset.mem_map.mp hi
  obtain ⟨a, b, rfl⟩ := exists_ix2 x
  rw [slot_emb] at hi'
  exact (mem_slot M s' s _ _).mp hi'

theorem slots_cover {sp : Space} (M : Memref sig .tc sp S16x32x1024 .bf16) :
    (Finset.univ.biUnion fun s : Fin 16 => (slotM M s).view.set) = M.view.set := by
  ext i
  rw [Finset.mem_biUnion]
  constructor
  · rintro ⟨s, -, h⟩
    obtain ⟨x, -, rfl⟩ := Finset.mem_map.mp h
    obtain ⟨a, b, rfl⟩ := exists_ix2 x
    rw [slot_emb]
    exact View.emb_mem_set _ _
  · intro h
    obtain ⟨x, -, rfl⟩ := Finset.mem_map.mp h
    obtain ⟨s, a, b, rfl⟩ := exists_ix3 x
    exact ⟨s, Finset.mem_univ _, (mem_slot M s s a b).mpr rfl⟩

/-- The rectangle of a slot, as a load or a store names it, has the slot's elements. -/
theorem access_slot {sp : Space} (M : Memref sig .tc sp S16x32x1024 .bf16) (s : Fin 16) :
    (M.access (slotR s)).set = (slotM M s).view.set := (View.set_reshape _ _).symm

/-! ## What a slot holds -/

variable {Val : EltTy → Type}

theorem slot_read {sp : Space} (M : Memref sig .tc sp S16x32x1024 .bf16) (s : Fin 16) (f : M.view.ty.Contents Val) (a : Fin 32) (b : Fin 1024) :
    (slotM M s).view.read Val f (ix2 a b) = M.view.read Val f (ix3 s a b) := by
  rw [View.read_apply, View.read_apply, slot_emb]

theorem slot_readAt {sp : Space} (M : Memref sig .tc sp S16x32x1024 .bf16) (s : Fin 16) (f : M.view.ty.Contents Val) (a : Fin 32) (b : Fin 1024) :
    M.view.readAt Val (slotR s).toLoadRect f (ix3 (0 : Fin 1) a b) = M.view.read Val f (ix3 s a b) := by
  show M.view.read Val f ((slotR s).emb (ix3 (0 : Fin 1) a b)) = _
  rw [slotR_emb]

/-- A transfer of slot `s'` of one buffer into slot `s` of another leaves there any contents that agree with the source. -/
theorem slot_landing {sp sp' : Space} (M : Memref sig .tc sp S16x32x1024 .bf16) (M' : Memref sig .tc sp' S16x32x1024 .bf16) (s s' : Fin 16)
    (fd g : M.view.ty.Contents Val) (fs : M'.view.ty.Contents Val)
    (h : ∀ a b, M'.view.read Val fs (ix3 s' a b) = M.view.read Val g (ix3 s a b)) :
    ∀ i ∈ (slotM M s).view.set, (slotM M s).view.write Val fd ((slotM M' s').view.read Val fs) Finset.univ i = g i := by
  intro i hi
  obtain ⟨x, -, rfl⟩ := Finset.mem_map.mp hi
  obtain ⟨a, b, rfl⟩ := exists_ix2 x
  refine View.eq_of_read_eq (v := (slotM M s).view) ?_
  rw [View.read_write_univ, slot_read, slot_read]
  exact h _ _

/-- A store of a slot leaves there any contents that agree with the stored block. -/
theorem slot_store {sp : Space} (M : Memref sig .tc sp S16x32x1024 .bf16) (s : Fin 16) (f g : M.view.ty.Contents Val) (w : S1x32x1024.Idx → Val .bf16)
    (h : ∀ a b, w (ix3 (0 : Fin 1) a b) = M.view.read Val g (ix3 s a b)) :
    ∀ i ∈ (slotM M s).view.set, (M.access (slotR s)).write Val f w Finset.univ i = g i := by
  intro i hi
  rw [← access_slot] at hi
  obtain ⟨x, -, rfl⟩ := Finset.mem_map.mp hi
  obtain ⟨a, b, rfl⟩ := exists_ix3_block x
  refine View.eq_of_read_eq (v := M.access (slotR s)) ?_
  rw [View.read_write_univ, h]
  exact (slot_readAt M s g a b).symm

/-! ## A semaphore array's entry -/

theorem sem_entry (base : ℕ) (hb : base + S16.numel ≤ 70) (s : Fin 16) (off : Fin 1 → ℕ) (h : off = ![s.val]) (inb : ∀ a, off a + S1.size a ≤ S16.size a) (hq : base + s.val < 70) :
    (((SemArray.consecutive base S16 hb : DmaSems sig S16).slice (Rect.unit (s := S16) off S1.size inb)).squeeze S_ squeezes_S1_S_).sem = (⟨base + s.val, hq⟩ : DmaSem sig) := by
  subst h
  refine Fin.ext ?_
  show base + (S16.rowMajor _).val = base + s.val
  rw [Shape.rowMajor_val_one]
  show base + (s.val + 1 * (_ : Fin 1).val) = base + s.val
  omega

end Cert.Exchange

end
-- ==== Proof.Protocol.lean ====
/-
# The protocol of the exchange

Sixteen devices; each computes its PARTIAL result (sixteen slots), sends slot `s` of it to device `s`, adds up the sixteen
blocks it received, and sends the sum to every other device. Every semaphore is waited on once, so every cell has one
round, round 0:

* the BARRIER cell of device `c` has one unit from each other device `p`, which hands `c` the two places in `p`'s memory that
  `c` writes into: slot `c` of `p`'s receive buffer and slot `c` of `p`'s result;
* the two COPY cells hand back the weight columns copied in, and the source;
* the cells FIRST SEND `s` hand back slot `s` of the partial result; FIRST RECEIVE `s` (paid by device `s`) hands over slot `s` of the
  receive buffer, holding device `s`'s partial result at slot `c`;
* the cells SECOND SEND `s` hand back a share of the device's own slot of the result; SECOND RECEIVE `s` (paid by device `s`)
  hands over slot `s` of the result, holding device `s`'s sum.

Nobody uses the four cells numbered by the device itself.
-/
module

public import proofs.«01_k».proof.Proof.Slots

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-- Ghost state: the pipeline's own and the exchange's rounds, duties named by the paying device. -/
abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The other devices, in the order a device addresses them -/

set_option backward.proofsInPublic true in
/-- The `j`-th device after `c`, counting from 0. -/
def tgt (c : Dev nD) (j : Fin 15) : Dev nD := ⟨(c.val + j.val + 1) % 16, Nat.mod_lt _ (by decide)⟩

theorem tgt_ne (c : Dev nD) (j : Fin 15) : tgt c j ≠ c := by
  intro h
  have h1 : (c.val + j.val + 1) % 16 = c.val := congrArg Fin.val h
  have h2 : c.val < 16 := c.isLt
  have := j.isLt
  omega

theorem tgt_injective (c : Dev nD) : Function.Injective (tgt c) := by
  intro i j h
  have h1 : (c.val + i.val + 1) % 16 = (c.val + j.val + 1) % 16 := congrArg Fin.val h
  have h2 : c.val < 16 := c.isLt
  have := i.isLt; have := j.isLt
  exact Fin.ext (by omega)

theorem tgt_surj (c d : Dev nD) (h : d ≠ c) : ∃ j, tgt c j = d := by
  have hc : c.val < 16 := c.isLt
  have hd : d.val < 16 := d.isLt
  have hne : d.val ≠ c.val := fun h' => h (Fin.ext h')
  refine ⟨⟨(d.val + 16 - c.val - 1) % 16, by omega⟩, Fin.ext ?_⟩
  show (c.val + (d.val + 16 - c.val - 1) % 16 + 1) % 16 = d.val
  omega

/-- The other devices are the fifteen after. -/
theorem erase_eq_map (c : Dev nD) : Finset.univ.erase c = Finset.univ.map ⟨tgt c, tgt_injective c⟩ := by
  ext d
  rw [Finset.mem_erase, Finset.mem_map]
  constructor
  · rintro ⟨h, -⟩
    obtain ⟨j, hj⟩ := tgt_surj c d h
    exact ⟨j, Finset.mem_univ _, hj⟩
  · rintro ⟨j, -, rfl⟩
    exact ⟨tgt_ne c j, Finset.mem_univ _⟩

/-- A family over the devices is the device's own member and the fifteen others'. -/
theorem bigSep_others (c : Dev nD) (Φ : Dev nD → sProp 𝕄) :
    bigSep Finset.univ Φ = iprop(Φ c ∗ bigSep Finset.univ fun j => Φ (tgt c j)) := by
  rw [bigSep_erase (Finset.mem_univ c), erase_eq_map, bigSep_map]; rfl

/-! ## The buffers -/

abbrev xM : Memref sig .tc .vmem S1x512x1024 .f32 := Memref.whole cc0_stg0_0
abbrev qM : Memref sig .tc .vmem S1024x1024 .f32 := Memref.whole cc0_stg1_0
abbrev oM : Memref sig .tc .vmem S1024x1024 .f32 := Memref.whole cc0_stg2_0
abbrev kHbm : Memref sig .tc .hbm S1024x4096 .f32 := Memref.whole main_arg2
abbrev vHbm : Memref sig .tc .hbm S1024x4096 .f32 := Memref.whole main_arg3
abbrev resM : Memref sig .tc .vmem S16x32x1024 .bf16 := Memref.whole cc0_stg3_0
abbrev kM : Memref sig .tc .vmem S1024x256 .f32 := Memref.whole cc0_scratch0
abbrev vM : Memref sig .tc .vmem S1024x256 .f32 := Memref.whole cc0_scratch1
abbrev sendM : Memref sig .tc .vmem S16x32x1024 .bf16 := Memref.whole cc0_scratch2
abbrev recvM : Memref sig .tc .vmem S16x32x1024 .bf16 := Memref.whole cc0_scratch3

/-- The columns of the key or value weights device `c` copies in. -/
abbrev colsM (M : Memref sig .tc .hbm S1024x4096 .f32) (c : Dev nD) : Memref sig .tc .hbm S1024x256 .f32 :=
  M.slice (Rect.unit (s := S1024x4096) (k0_off1 c) S1024x256.size (k0_off1_inb c)) (fun _ => rfl)

/-! ## What the buffers hold -/

/-- Device `c`'s activations, query columns and output rows, as staged. -/
def xAt (c : Dev nD) : Vec F S1x512x1024 .f32 := (win0_0.blk (0 : Fin 1)).view.read (Elt F) (m ((c : Thread nD τ).loc main_arg0))
def wqAt (c : Dev nD) : Vec F S1024x1024 .f32 := (win0_1.blk (0 : Fin 1)).view.read (Elt F) (m ((c : Thread nD τ).loc main_arg1))
def woAt (c : Dev nD) : Vec F S1024x1024 .f32 := (win0_2.blk (0 : Fin 1)).view.read (Elt F) (m ((c : Thread nD τ).loc main_arg4))
/-- Its key and value columns, as copied in. -/
def wkAt (c : Dev nD) : Vec F S1024x256 .f32 := (colsM kHbm c).view.read (Elt F) (m ((c : Thread nD τ).loc main_arg2))
def wvAt (c : Dev nD) : Vec F S1024x256 .f32 := (colsM vHbm c).view.read (Elt F) (m ((c : Thread nD τ).loc main_arg3))

/-- Device `c`'s partial result. -/
def partialAt (c : Dev nD) : Vec F S16x32x1024 .bf16 :=
  k0_pay8 (k0_pay2 (xAt m c) (wqAt m c)) (k0_pay3 (xAt m c) (wkAt m c)) (k0_pay4 (xAt m c) (wvAt m c))
    (k0_pay5 (xAt m c) (wqAt m c) (wkAt m c) (wvAt m c)) (k0_pay6 (xAt m c) (wqAt m c) (wkAt m c) (wvAt m c))
    (k0_pay7 (xAt m c) (wqAt m c) (wkAt m c) (wvAt m c)) (woAt m c)

/-- What device `c` has received after the first exchange: from device `s`, its partial result at slot `c`. -/
def recvAt (c : Dev nD) : Vec F S16x32x1024 .bf16 := fun i => partialAt m (i 0 : Fin 16) (ix3 (c : Fin 16) (i 1 : Fin 32) (i 2 : Fin 1024))

/-- The sum device `c` makes of it. -/
def sumAt (c : Dev nD) : Vec F S1x32x1024 .bf16 := k0_pay11 (recvAt m c)

/-- The result, the same on every device: slot `s` is device `s`'s sum. -/
def resAt : Vec F S16x32x1024 .bf16 := fun i => sumAt m (i 0 : Fin 16) (ix3 (0 : Fin 1) (i 1 : Fin 32) (i 2 : Fin 1024))

/-! ## Points-tos -/

/-- Slot `s` of device `c`'s buffer `M`, at share `q`. -/
def slotP (M : Memref sig .tc .vmem S16x32x1024 .bf16) (c : Dev nD) (s : Fin 16) (q : PosShare TreeShare)
    (f : Buf (Elt F) (M.view.loc (c : Thread nD τ))) : sProp 𝕄 :=
  (M.view.loc (c : Thread nD τ)) ↦[(slotM M s).view.set]{q} f

/-- The same at the full share, at whatever contents. -/
def slotAny (M : Memref sig .tc .vmem S16x32x1024 .bf16) (c : Dev nD) (s : Fin 16) : sProp 𝕄 := iprop(∃ f, slotP M c s fullShare f)

/-- The columns copied in from `M` by device `c`, as the launch left them. -/
def colsP (M : Memref sig .tc .hbm S1024x4096 .f32) (c : Dev nD) : sProp 𝕄 :=
  (M.view.loc (c : Thread nD τ)) ↦[(colsM M c).view.set]{fullShare} m (M.view.loc (c : Thread nD τ))

omit [FloatOps F] in
instance slotP_storable (M : Memref sig .tc .vmem S16x32x1024 .bf16) (c : Dev nD) (s q f) : BI.Storable (upEmb : UEmb _ 𝕄) (slotP (F := F) M c s q f) := by
  unfold slotP; infer_instance
omit [FloatOps F] in
instance slotAny_storable (M : Memref sig .tc .vmem S16x32x1024 .bf16) (c : Dev nD) (s) : BI.Storable (upEmb : UEmb _ 𝕄) (slotAny (F := F) M c s) := by
  unfold slotAny; infer_instance
omit [FloatOps F] in
instance colsP_storable (M : Memref sig .tc .hbm S1024x4096 .f32) (c : Dev nD) : BI.Storable (upEmb : UEmb _ 𝕄) (colsP (F := F) m M c) := by
  unfold colsP; infer_instance

/-! ## The semaphores -/

/-- The runtime's barrier semaphore. -/
abbrev barS : Sem sig := (SemArray.scalar (sig.barrier 0 rfl) : Sems sig S_).sem

/-- The kernel's own DMA semaphores: the two copies', and four arrays of sixteen (first send, first receive, second send,
    second receive). -/
abbrev Own : Type := Fin 2 ⊕ (Fin 4 × Fin 16)

set_option backward.proofsInPublic true in
/-- Where a semaphore lies in the pool, after the four of the staging buffers. -/
def semOf : Own → DmaSem sig
  | .inl i => ⟨4 + i.val, by have := i.isLt; show _ < 70; omega⟩
  | .inr (k, s) => ⟨6 + 16 * k.val + s.val, by have := k.isLt; have := s.isLt; show _ < 70; omega⟩

set_option backward.proofsInPublic true in
/-- Which semaphore a place in the pool is. -/
def ownOf (q : DmaSem sig) : Option Own :=
  if q.val < 4 then none
  else if h : q.val < 6 then some (.inl ⟨q.val - 4, by omega⟩)
  else some (.inr (⟨(q.val - 6) / 16, by have : q.val < 70 := q.isLt; omega⟩, ⟨(q.val - 6) % 16, Nat.mod_lt _ (by decide)⟩))

theorem ownOf_semOf (o : Own) : ownOf (semOf o) = some o := by
  rcases o with i | ⟨k, s⟩
  · have := i.isLt
    have hv : (semOf (.inl i)).val = 4 + i.val := rfl
    unfold ownOf
    rw [if_neg (by omega), dif_pos (by omega)]
    exact congrArg _ (congrArg _ (Fin.ext (by show (semOf (.inl i)).val - 4 = _; omega)))
  · have := k.isLt; have := s.isLt
    have hv : (semOf (.inr (k, s))).val = 6 + 16 * k.val + s.val := rfl
    unfold ownOf
    rw [if_neg (by omega), dif_neg (by omega)]
    refine congrArg _ (congrArg _ (Prod.ext (Fin.ext ?_) (Fin.ext ?_)))
    · show ((semOf (.inr (k, s))).val - 6) / 16 = k.val; omega
    · show ((semOf (.inr (k, s))).val - 6) % 16 = s.val; omega

theorem semOf_injective : Function.Injective semOf := fun a b h =>
  Option.some.inj ((ownOf_semOf a).symm.trans ((congrArg ownOf h).trans (ownOf_semOf b)))

theorem four_le_semOf (o : Own) : 4 ≤ (semOf o).val := by
  rcases o with i | ⟨k, s⟩
  · show 4 ≤ 4 + i.val; omega
  · show 4 ≤ 6 + 16 * k.val + s.val; omega

theorem semOf_ownOf (q : DmaSem sig) (o : Own) (h : ownOf q = some o) : semOf o = q := by
  unfold ownOf at h
  split at h
  · cases h
  · split at h
    · cases h; exact Fin.ext (by show 4 + (q.val - 4) = q.val; omega)
    · cases h; exact Fin.ext (by show 6 + 16 * ((q.val - 6) / 16) + (q.val - 6) % 16 = q.val; omega)

/-- A device's cells: the barrier's (`none`) and its own semaphores'. -/
abbrev semAt : Option Own → SemLoc sig
  | none => .reg barS
  | some o => .dma (semOf o)

abbrev cell (c : Dev nD) (o : Option Own) : GSem nD τ sig := ((c : Thread nD τ), semAt o)

theorem semAt_injective : Function.Injective semAt := by
  rintro (_ | a) (_ | b) h
  · rfl
  · cases h
  · cases h
  · exact congrArg some (semOf_injective (SemLoc.dma.inj h))

theorem cell_eq_iff {c d : Dev nD} {a b : Option Own} : cell c a = cell d b ↔ c = d ∧ a = b := by
  constructor
  · intro h
    exact ⟨congrArg (fun g : GSem nD τ sig => g.1.1) h, semAt_injective (congrArg Prod.snd h)⟩
  · rintro ⟨rfl, rfl⟩; rfl

/-! ## The schedule -/

/-- The units a transfer of a slot, and a copy of the weight columns, puts on a cell. -/
abbrev NT : ℕ := (slotM recvM 0).view.dmaCredit
abbrev NC : ℕ := kM.view.dmaCredit
theorem NT_pos : 0 < NT := View.dmaCredit_pos _ (by decide)
theorem NC_pos : 0 < NC := View.dmaCredit_pos _ (by decide)

/-- What device `p`'s barrier signal hands device `c`. -/
def barPay (c p : Dev nD) : sProp 𝕄 := iprop(slotAny recvM p c ∗ slotAny resM p c)

/-- What each of device `c`'s own cells hands it. -/
def ownPay (c : Dev nD) : Own → sProp 𝕄
  | .inl ⟨0, _⟩ => iprop((((c : Thread nD τ).loc cc0_scratch0) ↦{fullShare} wkAt m c) ∗ colsP m kHbm c)
  | .inl ⟨_ + 1, _⟩ => iprop((((c : Thread nD τ).loc cc0_scratch1) ↦{fullShare} wvAt m c) ∗ colsP m vHbm c)
  | .inr (⟨0, _⟩, s) => slotAny sendM c s
  | .inr (⟨1, _⟩, s) => slotP recvM c s fullShare (recvAt m c)
  | .inr (⟨2, _⟩, s) => slotP resM c c (shareTok fullShare 16 s) (resAt m)
  | .inr (⟨_ + 3, _⟩, s) => slotP resM c s fullShare (resAt m)

/-- The cells in use: not the ones numbered by the device itself. -/
def Active (c : Dev nD) : Own → Prop
  | .inl _ => True
  | .inr (_, s) => s ≠ c

instance (c : Dev nD) (o : Own) : Decidable (Active c o) := by
  rcases o with i | ⟨k, s⟩ <;> unfold Active <;> infer_instance

def ownAmt : Own → ℕ
  | .inl _ => NC
  | .inr _ => NT

/-- The rounds: round 0 only. -/
def sched : Rounds.Schedule (GSem nD τ sig) (Fin 16) 𝕄 where
  duties g r := if r = 0 ∧ g.1.2 = .tc then
      (match g.2 with
        | .reg _ => Finset.univ.erase g.1.1
        | .dma q => match ownOf q with
          | none => ∅
          | some o => if Active g.1.1 o then {0} else ∅)
    else ∅
  amount g _ _ := match g.2 with
    | .reg _ => 1
    | .dma q => match ownOf q with
      | none => 1
      | some o => ownAmt o
  payload g _ d := match g.2 with
    | .reg _ => barPay g.1.1 d
    | .dma q => match ownOf q with
      | none => iprop(emp)
      | some o => ownPay m g.1.1 o
  amount_pos g _ _ _ := by
    rcases g with ⟨t, b | q⟩
    · exact Nat.one_pos
    · show 0 < (match ownOf q with | none => 1 | some o => ownAmt o)
      cases ownOf q with
      | none => exact Nat.one_pos
      | some o => rcases o with i | x; exacts [NC_pos, NT_pos]

omit [FloatOps F] in
instance barPay_storable (c p : Dev nD) : BI.Storable (upEmb : UEmb _ 𝕄) (barPay (F := F) c p) := by unfold barPay; infer_instance
instance ownPay_storable (c : Dev nD) (o : Own) : BI.Storable (upEmb : UEmb _ 𝕄) (ownPay m c o) := by
  rcases o with ⟨_ | i, hi⟩ | ⟨⟨_ | _ | _ | k, hk⟩, s⟩ <;> unfold ownPay <;> infer_instance

instance sched_storable (g : GSem nD τ sig) (r : ℕ) (d : Fin 16) : BI.Storable (upEmb : UEmb _ 𝕄) ((sched m).payload g r d) := by
  rcases g with ⟨t, b | q⟩
  · show BI.Storable upEmb (barPay t.1 d); infer_instance
  · show BI.Storable upEmb (match ownOf q with | none => iprop(emp) | some o => ownPay m t.1 o)
    cases ownOf q <;> infer_instance

section Sched
variable (c : Dev nD)

theorem duties_bar : (sched m).duties (cell c none) 0 = Finset.univ.erase c := by dsimp only [sched]; exact if_pos ⟨rfl, rfl⟩
theorem duties_own (o : Own) : (sched m).duties (cell c (some o)) 0 = if Active c o then {0} else ∅ := by
  dsimp only [sched]; rw [if_pos ⟨rfl, rfl⟩, ownOf_semOf]
theorem duties_active (o : Own) (h : Active c o) : (sched m).duties (cell c (some o)) 0 = {0} := by rw [duties_own, if_pos h]
theorem duties_later (g : GSem nD τ sig) : ∀ r, 1 ≤ r → (sched m).duties g r = ∅ :=
  fun r hr => by dsimp only [sched]; rw [if_neg fun h => by omega]
theorem duties_idle (o : Own) (h : ¬ Active c o) : ∀ r, 0 ≤ r → (sched m).duties (cell c (some o)) r = ∅ := fun r _ => by
  rcases Nat.eq_zero_or_pos r with rfl | hr
  · rw [duties_own, if_neg h]
  · exact duties_later m _ r hr

theorem amount_bar (d : Fin 16) : (sched m).amount (cell c none) 0 d = 1 := rfl
theorem amount_own (o : Own) (d : Fin 16) : (sched m).amount (cell c (some o)) 0 d = ownAmt o := by dsimp only [sched]; rw [ownOf_semOf]
theorem payload_bar (d : Fin 16) : (sched m).payload (cell c none) 0 d = barPay c d := rfl
theorem payload_own (o : Own) (d : Fin 16) : (sched m).payload (cell c (some o)) 0 d = ownPay m c o := by dsimp only [sched]; rw [ownOf_semOf]

theorem expect_bar : (sched m).expect (cell c none) 0 = 15 := by
  unfold Schedule.expect Schedule.amountOf
  rw [duties_bar, Finset.sum_congr rfl fun d _ => amount_bar m c d, Finset.sum_const, Finset.card_erase_of_mem (Finset.mem_univ _), Finset.card_univ]
  rfl
theorem expect_own (o : Own) (h : Active c o) : (sched m).expect (cell c (some o)) 0 = ownAmt o := by
  unfold Schedule.expect Schedule.amountOf; rw [duties_active m c o h, Finset.sum_singleton, amount_own]

/-- What the barrier's round hands over: the two places in every other device's memory. -/
theorem rest_bar : bigSep ((sched m).duties (cell c none) 0 \ ∅) (fun d => (sched m).payload (cell c none) 0 d)
    = bigSep Finset.univ fun j => barPay c (tgt c j) := by
  rw [Finset.sdiff_empty, duties_bar, erase_eq_map, bigSep_map]; rfl
theorem rest_own (o : Own) (h : Active c o) :
    bigSep ((sched m).duties (cell c (some o)) 0 \ ∅) (fun d => (sched m).payload (cell c (some o)) 0 d) = ownPay m c o := by
  rw [Finset.sdiff_empty, duties_active m c o h, bigSep_singleton, payload_own]

end Sched

/-! ## What each device owes at launch, and the levels -/

/-- What is still owed of a family when its first `k` members are paid. -/
def owedFrom (t : Fin 15 → CellTallies nD τ sig Unit) (k : ℕ) : CellTallies nD τ sig Unit := ∑ j, if j.val < k then 0 else t j

theorem owedFrom_step (t : Fin 15 → CellTallies nD τ sig Unit) (k : Fin 15) : owedFrom t k.val = owedFrom t (k.val + 1) + t k := by
  unfold owedFrom
  rw [← Finset.add_sum_erase _ _ (Finset.mem_univ k), ← Finset.add_sum_erase Finset.univ (fun j : Fin 15 => if j.val < k.val + 1 then 0 else t j) (Finset.mem_univ k),
    if_neg (lt_irrefl _), if_pos (Nat.lt_succ_self _), zero_add, add_comm]
  congr 1
  refine Finset.sum_congr rfl fun j hj => ?_
  have hne : j.val ≠ k.val := fun h => (Finset.mem_erase.mp hj).1 (Fin.ext h)
  by_cases h : j.val < k.val
  · rw [if_pos h, if_pos (by omega)]
  · rw [if_neg h, if_neg (by omega)]

theorem owedFrom_done (t : Fin 15 → CellTallies nD τ sig Unit) : owedFrom t 15 = 0 := by
  unfold owedFrom; exact Finset.sum_eq_zero fun j _ => if_pos j.isLt

theorem owedFrom_pos {t : Fin 15 → CellTallies nD τ sig Unit} {k : ℕ} {g : GSem nD τ sig} {u : Unit} (h : 0 < owedFrom t k g u) : ∃ j, 0 < t j g u := by
  unfold owedFrom at h
  rw [Finset.sum_apply, Finsupp.finset_sum_apply] at h
  by_contra hn
  refine absurd h (Nat.not_lt.mpr (Nat.le_of_eq (Finset.sum_eq_zero fun j _ => ?_)))
  by_cases hj : j.val < k
  · rw [if_pos hj]; rfl
  · rw [if_neg hj]; exact Nat.eq_zero_of_not_pos fun h' => hn ⟨j, h'⟩

/-- A barrier signal to every other device, a block of the partial result to each, the sum to each. -/
def owBar (c : Dev nD) (j : Fin 15) : CellTallies nD τ sig Unit := tallyAt (cell (tgt c j) none) () 1
def owFst (c : Dev nD) (j : Fin 15) : CellTallies nD τ sig Unit := tallyAt (cell (tgt c j) (some (.inr (1, c)))) () NT
def owSnd (c : Dev nD) (j : Fin 15) : CellTallies nD τ sig Unit := tallyAt (cell (tgt c j) (some (.inr (3, c)))) () NT

/-- What is owed at launch. -/
def O₀ (c : Dev nD) : CellTallies nD τ sig Unit := owedFrom (owSnd c) 0 + owedFrom (owFst c) 0 + owedFrom (owBar c) 0

def L (g : GSem nD τ sig) : Finset Unit := if g.1.2 = .tc then {()} else ∅

/-- Barrier cells at 1, first receives at 2, second receives at 3, everything else at 0. -/
def semLev : SemLoc sig → ℕ
  | .reg _ => 1
  | .dma q => match ownOf q with
    | some (.inr (⟨1, _⟩, _)) => 2
    | some (.inr (⟨3, _⟩, _)) => 3
    | _ => 0
def lv (g : GSem nD τ sig) (_ : Unit) : ℕ := semLev g.2

theorem semLev_own (o : Own) : semLev (.dma (semOf o)) = match o with | .inr (⟨1, _⟩, _) => 2 | .inr (⟨3, _⟩, _) => 3 | _ => 0 := by
  show (match ownOf (semOf o) with | some (.inr (⟨1, _⟩, _)) => 2 | some (.inr (⟨3, _⟩, _)) => 3 | _ => 0) = _
  rw [ownOf_semOf]
  rcases o with ⟨_ | i, hi⟩ | ⟨⟨_ | _ | _ | _ | k, hk⟩, s⟩ <;> rfl

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- A wait at level `n` is allowed when everything owed is on a tensor core's cell above `n`. -/
theorem mayWait_of (c : Dev nD) (sm : SemLoc sig) (n : ℕ) (O : CellTallies nD τ sig Unit) (hsm : semLev sm ≤ n)
    (hO : ∀ g u, 0 < O g u → g.1.2 = .tc ∧ n < semLev g.2) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

theorem owSnd_pos {c : Dev nD} {k : ℕ} {g : GSem nD τ sig} {u : Unit} (h : 0 < owedFrom (owSnd c) k g u) : g.1.2 = .tc ∧ semLev g.2 = 3 := by
  obtain ⟨j, hj⟩ := owedFrom_pos h
  rw [tallyAt_pos hj]; exact ⟨rfl, semLev_own _⟩
theorem owFst_pos {c : Dev nD} {k : ℕ} {g : GSem nD τ sig} {u : Unit} (h : 0 < owedFrom (owFst c) k g u) : g.1.2 = .tc ∧ semLev g.2 = 2 := by
  obtain ⟨j, hj⟩ := owedFrom_pos h
  rw [tallyAt_pos hj]; exact ⟨rfl, semLev_own _⟩
theorem owBar_pos {c : Dev nD} {k : ℕ} {g : GSem nD τ sig} {u : Unit} (h : 0 < owedFrom (owBar c) k g u) : g.1.2 = .tc ∧ semLev g.2 = 1 := by
  obtain ⟨j, hj⟩ := owedFrom_pos h
  rw [tallyAt_pos hj]; exact ⟨rfl, rfl⟩

theorem add_pos_or {O O' : CellTallies nD τ sig Unit} {g : GSem nD τ sig} {u : Unit} (h : 0 < (O + O') g u) : 0 < O g u ∨ 0 < O' g u := by
  rw [Pi.add_apply, Finsupp.add_apply] at h; omega

end Cert.Exchange

end
-- ==== Proof.Steps.lean ====
/-
# One step of the exchange

For each kind of statement the kernel repeats over the fifteen other devices — a barrier signal, a transfer of the first
or the second exchange, a wait on one of the four arrays of cells — what the device holds before the `k`-th of them
becomes what it holds before the next. What a device holds over the fifteen is a family, the first `k` members in the
state after their statement and the others in the state before it (`mix`).
-/
module

public import proofs.«01_k».proof.Proof.Protocol

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

abbrev 𝒱₀ : Variants := Variants.none

/-- One member of a family apart from the others. -/
theorem family_erase {ι : Type} [DecidableEq ι] {s : Finset ι} {i : ι} (h : i ∈ s) {Φ : ι → sProp 𝕄} :
    bigSep s Φ = iprop(Φ i ∗ bigSep (s.erase i) Φ) := bigSep_erase h
/-- One member of a family alone. -/
theorem family_elim {ι : Type} [DecidableEq ι] {s : Finset ι} {i : ι} (h : i ∈ s) {Φ : ι → sProp 𝕄} : (bigSep s Φ : sProp 𝕄) ⊢ Φ i := bigSep_elim h

/-! ## What every device knows -/

/-- Every cell's invariant, under the names the launch chose, and that every cell is at round 0. -/
def known (K : Dev nD × Option Own → ℕ) : sProp 𝕄 :=
  iprop((bigSep Finset.univ fun x : Dev nD × Option Own => cellInv ER (sched m) (K x) (cell x.1 x.2))
    ∗ bigSep Finset.univ fun x : Dev nD × Option Own => reached ER (cell x.1 x.2) 0)

instance known_persistent (K : Dev nD × Option Own → ℕ) : BI.Persistent (known m K) := by unfold known; infer_instance

theorem known_inv (K : Dev nD × Option Own → ℕ) (c : Dev nD) (o : Option Own) : known m K ⊢ cellInv ER (sched m) (K (c, o)) (cell c o) := by
  unfold known
  iintro ⟨H, -⟩
  iapply (show _ ⊢ cellInv ER (sched m) (K (c, o)) (cell c o) from family_elim (Φ := fun x : Dev nD × Option Own => (cellInv ER (sched m) (K x) (cell x.1 x.2) : sProp 𝕄)) (Finset.mem_univ (c, o)))
  iexact H
theorem known_reached (K : Dev nD × Option Own → ℕ) (c : Dev nD) (o : Option Own) : known m K ⊢ reached ER (cell c o) 0 := by
  unfold known
  iintro ⟨-, H⟩
  iapply (show _ ⊢ reached ER (cell c o) 0 from family_elim (Φ := fun x : Dev nD × Option Own => (reached ER (cell x.1 x.2) 0 : sProp 𝕄)) (Finset.mem_univ (c, o)))
  iexact H

/-- What device `c` owes, whatever it has waited on. -/
def owesX (c : Dev nD) (O : CellTallies nD τ sig Unit) : sProp 𝕄 := iprop(∃ W, owes (c : Thread nD τ) O W)

/-! ## A family part way -/

/-- The first `k` of fifteen in state `D`, the others in state `T`. -/
def mix (k : ℕ) (T D : Fin 15 → sProp 𝕄) : sProp 𝕄 := bigSep Finset.univ fun j : Fin 15 => if j.val < k then D j else T j

omit [FloatOps F] in
theorem mix_start (T D : Fin 15 → sProp 𝕄) : bigSep Finset.univ T ⊢ mix 0 T D :=
  Entails.of_eq (bigSep_congr fun j _ => (if_neg (Nat.not_lt_zero _)).symm)
omit [FloatOps F] in
theorem mix_end (T D : Fin 15 → sProp 𝕄) : mix 15 T D ⊢ bigSep Finset.univ D :=
  Entails.of_eq (bigSep_congr fun j _ => if_pos j.isLt)

theorem mix_step (T D : Fin 15 → sProp 𝕄) (k : ℕ) (hk : k < 15) : mix k T D ⊢ iprop(T ⟨k, hk⟩ ∗ (D ⟨k, hk⟩ -∗ mix (k + 1) T D)) := by
  have hrest : bigSep (Finset.univ.erase (⟨k, hk⟩ : Fin 15)) (fun j : Fin 15 => if j.val < k then D j else T j)
      = bigSep (Finset.univ.erase (⟨k, hk⟩ : Fin 15)) (fun j : Fin 15 => if j.val < k + 1 then D j else T j) := by
    refine bigSep_congr fun j hj => ?_
    have hne : j.val ≠ k := fun h => (Finset.mem_erase.mp hj).1 (Fin.ext h)
    by_cases h : j.val < k
    · rw [if_pos h, if_pos (by omega)]
    · rw [if_neg h, if_neg (by omega)]
  unfold mix
  rw [family_erase (F := F) (Finset.mem_univ (⟨k, hk⟩ : Fin 15)), family_erase (F := F) (s := Finset.univ) (Φ := fun j : Fin 15 => if j.val < k + 1 then D j else T j) (Finset.mem_univ (⟨k, hk⟩ : Fin 15)),
    hrest, if_neg (lt_irrefl _), if_pos (Nat.lt_succ_self _)]
  iintro ⟨HT, HR⟩
  isplitl [HT]; · iexact HT
  iintro HD
  isplitl [HD] <;> iassumption

/-! ## The barrier signals -/

section Steps

variable (K : Dev nD × Option Own → ℕ) (c : Dev nD)

/-- Before its signal to the `j`-th other device: the signal's token and the two places that device writes into. -/
def sigTodo (j : Fin 15) : sProp 𝕄 := iprop(dutyTok ER (cell (tgt c j) none) 0 c ∗ slotAny recvM c (tgt c j) ∗ slotAny resM c (tgt c j))

def SigSt (k : ℕ) : sProp 𝕄 :=
  iprop(known m K ∗ owesX c (owedFrom (owSnd c) 0 + owedFrom (owFst c) 0 + owedFrom (owBar c) k) ∗ mix k (sigTodo c) (fun _ => iprop(emp)))

theorem step_signal (k : ℕ) (hk : k < 15) (n : Dev nD) (hn : n.val = (c.val + k + 1) % 16) {α : Type} {Q : α → sProp 𝕄} {kt : PUnit → Prog (TpuEff nD τ sig (Elt F) Λ₀ .tc) α} :
    SigSt m K c k ⊢ iprop((SigSt m K c (k + 1) -∗ wp frame (wpE (defs₀ (F := F)) 𝒱₀ (c : Thread nD τ) none) Set.univ (kt ⟨⟩) Q)
      -∗ wp frame (wpE (defs₀ (F := F)) 𝒱₀ (c : Thread nD τ) none) Set.univ (.op (.semSignal (Dev.tc n) barS (1#32 : BitVec 32).toInt) kt) Q) := by
  rw [show (1#32 : BitVec 32).toInt = (((1#32 : BitVec 32).toNat : ℕ) : ℤ) from rfl]
  obtain rfl : n = tgt c ⟨k, hk⟩ := Fin.ext hn
  unfold SigSt owesX
  rw [owedFrom_step (owBar c) ⟨k, hk⟩, ← add_assoc]
  iintro ⟨#HK, ⟨%W, HO⟩, HM⟩ Hk
  ihave H := (mix_step _ _ k hk) $$ HM
  icases H with ⟨HT, HM⟩
  unfold sigTodo
  icases HT with ⟨Htok, Hr, Hs⟩
  iapply (Rounds.wp_signal 𝒱₀ ER (sched m) (c : Thread nD τ) none (dst := (tgt c ⟨k, hk⟩ : Thread nD τ)) (sem := barS) (r := 0) (κ := K (tgt c ⟨k, hk⟩, none))
      (d := c) (by rw [duties_bar]; exact Finset.mem_erase.mpr ⟨(tgt_ne c _).symm, Finset.mem_univ _⟩) ((amount_bar m (tgt c ⟨k, hk⟩) c).trans (by decide)) ()
      (owedFrom (owSnd c) 0 + owedFrom (owFst c) 0 + owedFrom (owBar c) (k + 1)) rfl)
    $$ [HO Htok Hr Hs]
  · isplitr; · iapply (known_inv m K (tgt c ⟨k, hk⟩) none); iexact HK
    isplitl [HO]; · iexact HO
    isplitl [Htok]; · iexact Htok
    isplitl [Hr Hs]
    · rw [payload_bar]; unfold barPay; isplitl [Hr] <;> iassumption
    · iapply (known_reached m K (tgt c ⟨k, hk⟩) none); iexact HK
  iintro HO
  iapply Hk
  isplitr; · iexact HK
  isplitl [HO]; · iexists W; iexact HO
  iapply HM
  iempintro

/-! ## The transfers -/

/-- Before the `j`-th transfer of the first exchange: the block, the place it goes to, the two tokens. -/
def fstTodo (j : Fin 15) : sProp 𝕄 :=
  iprop(slotP sendM c (tgt c j) fullShare (partialAt m c) ∗ slotAny recvM (tgt c j) c
    ∗ dutyTok ER (cell c (some (.inr (0, tgt c j)))) 0 0 ∗ dutyTok ER (cell (tgt c j) (some (.inr (1, c)))) 0 0)
/-- After it: the right to wait for it. -/
def sentCred (kind : Fin 4) (j : Fin 15) : sProp 𝕄 := cred (tallyAt (cell c (some (.inr (kind, tgt c j)))) () NT)

def FstSt (k : ℕ) : sProp 𝕄 :=
  iprop(known m K ∗ owesX c (owedFrom (owSnd c) 0 + owedFrom (owFst c) k) ∗ mix k (fstTodo m c) (sentCred c 0))

theorem tgt_active (kind : Fin 4) (j : Fin 15) : Active c (.inr (kind, tgt c j)) := tgt_ne c j
theorem self_active (kind : Fin 4) (j : Fin 15) : Active (tgt c j) (.inr (kind, c)) := (tgt_ne c j).symm

theorem step_fst (k : ℕ) (hk : k < 15) (n : Dev nD) (hn : n.val = (c.val + k + 1) % 16)
    (offs offd : Fin 3 → ℕ) (hs : offs = ![(tgt c ⟨k, hk⟩).val, 0, 0]) (hd : offd = ![c.val, 0, 0])
    (inbs : ∀ a, offs a + S1x32x1024.size a ≤ S16x32x1024.size a) (inbd : ∀ a, offd a + S1x32x1024.size a ≤ S16x32x1024.size a)
    (q₁ q₂ : DmaSem sig) (hq₁ : q₁ = semOf (.inr (0, tgt c ⟨k, hk⟩))) (hq₂ : q₂ = semOf (.inr (1, c)))
    {hsc : ((recvM.slice (Rect.unit (s := S16x32x1024) offd S1x32x1024.size inbd) (fun _ => rfl)).squeeze S32x1024 squeezes_S1x32x1024_S32x1024).view.ref.isScScratch = false}
    {hsrc : ((sendM.slice (Rect.unit (s := S16x32x1024) offs S1x32x1024.size inbs) (fun _ => rfl)).squeeze S32x1024 squeezes_S1x32x1024_S32x1024).view.WordExact}
    {hdst : ((recvM.slice (Rect.unit (s := S16x32x1024) offd S1x32x1024.size inbd) (fun _ => rfl)).squeeze S32x1024 squeezes_S1x32x1024_S32x1024).view.WordExact}
    {hsem : DmaTarget.Typed .vmem (.dma q₂) (.remote (Dev.tc n : Thread nD τ) ((recvM.slice (Rect.unit (s := S16x32x1024) offd S1x32x1024.size inbd) (fun _ => rfl)).squeeze S32x1024 squeezes_S1x32x1024_S32x1024) (.dma q₁) hsc)}
    {α : Type} {Q : α → sProp 𝕄} {kt : PUnit → Prog (TpuEff nD τ sig (Elt F) Λ₀ .tc) α} :
    FstSt m K c k ⊢ iprop((FstSt m K c (k + 1) -∗ wp frame (wpE (defs₀ (F := F)) 𝒱₀ (c : Thread nD τ) none) Set.univ (kt ⟨⟩) Q)
      -∗ wp frame (wpE (defs₀ (F := F)) 𝒱₀ (c : Thread nD τ) none) Set.univ
        (.op (.enqueueDma ((sendM.slice (Rect.unit (s := S16x32x1024) offs S1x32x1024.size inbs) (fun _ => rfl)).squeeze S32x1024 squeezes_S1x32x1024_S32x1024)
          (.remote (Dev.tc n : Thread nD τ) ((recvM.slice (Rect.unit (s := S16x32x1024) offd S1x32x1024.size inbd) (fun _ => rfl)).squeeze S32x1024 squeezes_S1x32x1024_S32x1024) (.dma q₁) hsc)
          (.dma q₂) hsrc hdst hsem) kt) Q) := by
  obtain rfl : n = tgt c ⟨k, hk⟩ := Fin.ext hn
  subst hs hd hq₁ hq₂
  unfold FstSt owesX
  rw [owedFrom_step (owFst c) ⟨k, hk⟩, ← add_assoc]
  iintro ⟨#HK, ⟨%W, HO⟩, HM⟩ Hk
  ihave H := (mix_step _ _ k hk) $$ HM
  icases H with ⟨HT, HM⟩
  unfold fstTodo slotAny
  icases HT with ⟨Hsrc, ⟨%fd, Hdst⟩, Ht₁, Ht₂⟩
  iapply (Rounds.wp_send_pointsTo 𝒱₀ ER (sched m) (c : Thread nD τ) none (c' := (tgt c ⟨k, hk⟩ : Thread nD τ))
      (src := slotM sendM (tgt c ⟨k, hk⟩)) (dst := slotM recvM c) (q := fullShare) (fs := partialAt m c) (fd := fd)
      (κ₁ := K (c, some (.inr (0, tgt c ⟨k, hk⟩)))) (κ₂ := K (tgt c ⟨k, hk⟩, some (.inr (1, c)))) (r₁ := 0) (r₂ := 0) (d₁ := 0) (d₂ := 0)
      (by rw [duties_active m c _ (tgt_active c 0 _)]; exact Finset.mem_singleton_self _)
      (by rw [duties_active m _ _ (self_active c 1 _)]; exact Finset.mem_singleton_self _)
      () () NT rfl (amount_own m c _ 0) (amount_own m (tgt c ⟨k, hk⟩) _ 0)
      (owedFrom (owSnd c) 0 + owedFrom (owFst c) (k + 1)) rfl (W := W)
      (by rw [payload_own]; unfold ownPay slotAny slotP
          iintro H; iexists _; iexact H)
      (by rw [payload_own]; unfold ownPay slotP
          refine Entails.of_eq (pointsTo_congr ?_)
          exact slot_landing recvM sendM c (tgt c ⟨k, hk⟩) fd (recvAt m (tgt c ⟨k, hk⟩)) (partialAt m c) (fun _ _ => rfl)))
    $$ [HO Hsrc Hdst Ht₁ Ht₂]
  · isplitr; · iapply (known_inv m K c (some (.inr (0, tgt c ⟨k, hk⟩)))); iexact HK
    isplitr; · iapply (known_inv m K (tgt c ⟨k, hk⟩) (some (.inr (1, c)))); iexact HK
    isplitl [Hsrc]; · unfold slotP; iexact Hsrc
    isplitl [Hdst]; · unfold slotP; iexact Hdst
    isplitl [HO]; · iexact HO
    isplitl [Ht₁]; · iexact Ht₁
    isplitr; · iapply (known_reached m K c (some (.inr (0, tgt c ⟨k, hk⟩)))); iexact HK
    isplitl [Ht₂]; · iexact Ht₂
    iapply (known_reached m K (tgt c ⟨k, hk⟩) (some (.inr (1, c)))); iexact HK
  iintro ⟨HC, HO⟩
  iapply Hk
  isplitr; · iexact HK
  isplitl [HO]; · iexists W; iexact HO
  iapply HM
  unfold sentCred
  iexact HC

/-- Before the `j`-th transfer of the second exchange: a share of the device's own slot of the result, the place it goes
    to, the two tokens. -/
def sndTodo (j : Fin 15) : sProp 𝕄 :=
  iprop(slotP resM c c (shareTok fullShare 16 (tgt c j)) (resAt m) ∗ slotAny resM (tgt c j) c
    ∗ dutyTok ER (cell c (some (.inr (2, tgt c j)))) 0 0 ∗ dutyTok ER (cell (tgt c j) (some (.inr (3, c)))) 0 0)

def SndSt (k : ℕ) : sProp 𝕄 :=
  iprop(known m K ∗ owesX c (owedFrom (owSnd c) k) ∗ mix k (sndTodo m c) (sentCred c 2))

theorem step_snd (k : ℕ) (hk : k < 15) (n : Dev nD) (hn : n.val = (c.val + k + 1) % 16)
    (off : Fin 3 → ℕ) (ho : off = ![c.val, 0, 0])
    (inb : ∀ a, off a + S1x32x1024.size a ≤ S16x32x1024.size a)
    (q₁ q₂ : DmaSem sig) (hq₁ : q₁ = semOf (.inr (2, tgt c ⟨k, hk⟩))) (hq₂ : q₂ = semOf (.inr (3, c)))
    {hsc : ((resM.slice (Rect.unit (s := S16x32x1024) off S1x32x1024.size inb) (fun _ => rfl)).squeeze S32x1024 squeezes_S1x32x1024_S32x1024).view.ref.isScScratch = false}
    {hsrc hdst : ((resM.slice (Rect.unit (s := S16x32x1024) off S1x32x1024.size inb) (fun _ => rfl)).squeeze S32x1024 squeezes_S1x32x1024_S32x1024).view.WordExact}
    {hsem : DmaTarget.Typed .vmem (.dma q₂) (.remote (Dev.tc n : Thread nD τ) ((resM.slice (Rect.unit (s := S16x32x1024) off S1x32x1024.size inb) (fun _ => rfl)).squeeze S32x1024 squeezes_S1x32x1024_S32x1024) (.dma q₁) hsc)}
    {α : Type} {Q : α → sProp 𝕄} {kt : PUnit → Prog (TpuEff nD τ sig (Elt F) Λ₀ .tc) α} :
    SndSt m K c k ⊢ iprop((SndSt m K c (k + 1) -∗ wp frame (wpE (defs₀ (F := F)) 𝒱₀ (c : Thread nD τ) none) Set.univ (kt ⟨⟩) Q)
      -∗ wp frame (wpE (defs₀ (F := F)) 𝒱₀ (c : Thread nD τ) none) Set.univ
        (.op (.enqueueDma ((resM.slice (Rect.unit (s := S16x32x1024) off S1x32x1024.size inb) (fun _ => rfl)).squeeze S32x1024 squeezes_S1x32x1024_S32x1024)
          (.remote (Dev.tc n : Thread nD τ) ((resM.slice (Rect.unit (s := S16x32x1024) off S1x32x1024.size inb) (fun _ => rfl)).squeeze S32x1024 squeezes_S1x32x1024_S32x1024) (.dma q₁) hsc)
          (.dma q₂) hsrc hdst hsem) kt) Q) := by
  obtain rfl : n = tgt c ⟨k, hk⟩ := Fin.ext hn
  subst ho hq₁ hq₂
  unfold SndSt owesX
  rw [owedFrom_step (owSnd c) ⟨k, hk⟩]
  iintro ⟨#HK, ⟨%W, HO⟩, HM⟩ Hk
  ihave H := (mix_step _ _ k hk) $$ HM
  icases H with ⟨HT, HM⟩
  unfold sndTodo slotAny
  icases HT with ⟨Hsrc, ⟨%fd, Hdst⟩, Ht₁, Ht₂⟩
  iapply (Rounds.wp_send_pointsTo 𝒱₀ ER (sched m) (c : Thread nD τ) none (c' := (tgt c ⟨k, hk⟩ : Thread nD τ))
      (src := slotM resM c) (dst := slotM resM c) (q := shareTok fullShare 16 (tgt c ⟨k, hk⟩)) (fs := resAt m) (fd := fd)
      (κ₁ := K (c, some (.inr (2, tgt c ⟨k, hk⟩)))) (κ₂ := K (tgt c ⟨k, hk⟩, some (.inr (3, c)))) (r₁ := 0) (r₂ := 0) (d₁ := 0) (d₂ := 0)
      (by rw [duties_active m c _ (tgt_active c 2 _)]; exact Finset.mem_singleton_self _)
      (by rw [duties_active m _ _ (self_active c 3 _)]; exact Finset.mem_singleton_self _)
      () () NT rfl (amount_own m c _ 0) (amount_own m (tgt c ⟨k, hk⟩) _ 0)
      (owedFrom (owSnd c) (k + 1)) rfl (W := W)
      (by rw [payload_own]; unfold ownPay slotP; exact BI.Entails.refl _)
      (by rw [payload_own]; unfold ownPay slotP
          refine Entails.of_eq (pointsTo_congr ?_)
          exact slot_landing resM resM c c fd (resAt m) (resAt m) (fun _ _ => rfl)))
    $$ [HO Hsrc Hdst Ht₁ Ht₂]
  · isplitr; · iapply (known_inv m K c (some (.inr (2, tgt c ⟨k, hk⟩)))); iexact HK
    isplitr; · iapply (known_inv m K (tgt c ⟨k, hk⟩) (some (.inr (3, c)))); iexact HK
    isplitl [Hsrc]; · unfold slotP; iexact Hsrc
    isplitl [Hdst]; · unfold slotP; iexact Hdst
    isplitl [HO]; · iexact HO
    isplitl [Ht₁]; · iexact Ht₁
    isplitr; · iapply (known_reached m K c (some (.inr (2, tgt c ⟨k, hk⟩)))); iexact HK
    isplitl [Ht₂]; · iexact Ht₂
    iapply (known_reached m K (tgt c ⟨k, hk⟩) (some (.inr (3, c)))); iexact HK
  iintro ⟨HC, HO⟩
  iapply Hk
  isplitr; · iexact HK
  isplitl [HO]; · iexists W; iexact HO
  iapply HM
  unfold sentCred
  iexact HC

/-! ## The waits -/

/-- Before the wait on the cell numbered by the `j`-th other device: the credit and the position. -/
def waitTodo (kind : Fin 4) (j : Fin 15) : sProp 𝕄 :=
  iprop(cred (tallyAt (cell c (some (.inr (kind, tgt c j)))) () NT) ∗ atPos ER (cell c (some (.inr (kind, tgt c j)))) 0 ∅ 0)
/-- After it: what the cell hands over, and its counter at zero. -/
def waitDone (kind : Fin 4) (j : Fin 15) : sProp 𝕄 :=
  iprop(ownPay m c (.inr (kind, tgt c j)) ∗ semVal (cell c (some (.inr (kind, tgt c j)))) 0)

def WaitSt (kind : Fin 4) (O : CellTallies nD τ sig Unit) (k : ℕ) : sProp 𝕄 :=
  iprop(known m K ∗ levAts L lv ∗ owesX c O ∗ mix k (waitTodo c kind) (waitDone m c kind))

/-- The wait on one of the device's own cells, which closes it. -/
theorem wait_own (o : Own) (ho : Active c o) (O : CellTallies nD τ sig Unit) (hO : ∀ g u, 0 < O g u → g.1.2 = .tc ∧ semLev (semAt (some o)) < semLev g.2)
    {sp sp' : Space} {s : Shape} {e : EltTy} (q : DmaSem sig) (hq : q = semOf o) (src : Memref sig .tc sp s e) (dst : Memref sig .tc sp' s e)
    {h₁ : src.view.WordExact} {h₂ : dst.view.WordExact} (hN : dst.view.dmaCredit = ownAmt o)
    {α : Type} {Q : α → sProp 𝕄} {kt : PUnit → Prog (TpuEff nD τ sig (Elt F) Λ₀ .tc) α} :
    iprop(known m K ∗ levAts L lv ∗ owesX c O ∗ cred (tallyAt (cell c (some o)) () (ownAmt o)) ∗ atPos ER (cell c (some o)) 0 ∅ 0)
      ⊢ iprop(((owesX c O ∗ ownPay m c o ∗ semVal (cell c (some o)) 0) -∗ wp frame (wpE (defs₀ (F := F)) 𝒱₀ (c : Thread nD τ) none) Set.univ (kt ⟨⟩) Q)
      -∗ wp frame (wpE (defs₀ (F := F)) 𝒱₀ (c : Thread nD τ) none) Set.univ (.op (.waitDma2 q src dst h₁ h₂) kt) Q) := by
  subst hq
  have hexp : 0 + dst.view.dmaCredit = (sched m).expect (cell c (some o)) 0 := by rw [Nat.zero_add, expect_own m c o ho]; exact hN
  unfold owesX
  iintro ⟨#HK, #Hlev, ⟨%W, HO⟩, HC, Hat⟩ Hk
  iapply (Rounds.wp_wait_rest_token 𝒱₀ ER (sched m) (c : Thread nD τ) none (κ := K (c, some o))
      (wpE_waitDma2_eq 𝒱₀ (c : Thread nD τ) none Set.univ) (Set.mem_univ _) () (O := O) (W := W) (R := 0) (m := 0) (T := ∅)
      hexp) $$ [HC HO Hat]
  · isplitr; · iapply (known_inv m K c (some o)); iexact HK
    isplitl [HC]; · rw [show dst.view.dmaCredit = ownAmt o from hN]; iexact HC
    isplitl [HO]; · iexact HO
    isplitr; · iapply (mayWait_of c _ _ O (le_refl _) hO); iexact Hlev
    iexact Hat
  iintro ⟨HO, Hat, -, Hpay⟩
  ihave Hp := (Entails.of_eq (rest_own m c o ho)) $$ Hpay
  imod (Rounds.cell_close ER (sched m) (Set.mem_univ (K (c, some o))) (fun h => h) (R := 0 + 1) (duties_later m (cell c (some o)))) $$ [Hat] with Hz
  · isplitr; · iapply (known_inv m K c (some o)); iexact HK
    iexact Hat
  iapply Hk
  isplitl [HO]; · iexists _; iexact HO
  isplitl [Hp] <;> iassumption

theorem step_wait (kind : Fin 4) (O : CellTallies nD τ sig Unit) (k : ℕ) (hk : k < 15)
    (hO : ∀ g u, 0 < O g u → g.1.2 = .tc ∧ semLev (semAt (some (.inr (kind, tgt c ⟨k, hk⟩)))) < semLev g.2)
    {sp sp' : Space} {s : Shape} {e : EltTy} (q : DmaSem sig) (hq : q = semOf (.inr (kind, tgt c ⟨k, hk⟩))) (src : Memref sig .tc sp s e) (dst : Memref sig .tc sp' s e)
    {h₁ : src.view.WordExact} {h₂ : dst.view.WordExact} (hN : dst.view.dmaCredit = NT)
    {α : Type} {Q : α → sProp 𝕄} {kt : PUnit → Prog (TpuEff nD τ sig (Elt F) Λ₀ .tc) α} :
    WaitSt m K c kind O k ⊢ iprop((WaitSt m K c kind O (k + 1) -∗ wp frame (wpE (defs₀ (F := F)) 𝒱₀ (c : Thread nD τ) none) Set.univ (kt ⟨⟩) Q)
      -∗ wp frame (wpE (defs₀ (F := F)) 𝒱₀ (c : Thread nD τ) none) Set.univ (.op (.waitDma2 q src dst h₁ h₂) kt) Q) := by
  unfold WaitSt
  iintro ⟨#HK, #Hlev, HO, HM⟩ Hk
  ihave H := (mix_step _ _ k hk) $$ HM
  icases H with ⟨HT, HM⟩
  unfold waitTodo
  icases HT with ⟨HC, Hat⟩
  iapply (wait_own m K c (.inr (kind, tgt c ⟨k, hk⟩)) (tgt_active c kind _) O hO q hq src dst hN) $$ [HO HC Hat]
  · isplitr; · iexact HK
    isplitr; · iexact Hlev
    isplitl [HO]; · iexact HO
    isplitl [HC]; · iexact HC
    iexact Hat
  iintro ⟨HO, Hp, Hz⟩
  iapply Hk
  isplitr; · iexact HK
  isplitr; · iexact Hlev
  isplitl [HO]; · iexact HO
  iapply HM
  unfold waitDone
  isplitl [Hp] <;> iassumption

end Steps

end Cert.Exchange

end
-- ==== Proof.Local.lean ====
/-
# The other steps of one device

The barrier wait, the copies of the weight columns, the slots of a whole buffer, and the shares of a device's own slot of
the result.
-/
module

public import proofs.«01_k».proof.Proof.Steps

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-! ## The barrier wait -/

/-- Everything owed after the barrier signals lies above the barrier. -/
theorem owed_above_bar (c : Dev nD) (g : GSem nD τ sig) (u : Unit) (h : 0 < (owedFrom (owSnd c) 0 + owedFrom (owFst c) 0) g u) :
    g.1.2 = .tc ∧ 1 < semLev g.2 := by
  rcases add_pos_or h with h | h
  · exact ⟨(owSnd_pos h).1, by rw [(owSnd_pos h).2]; decide⟩
  · exact ⟨(owFst_pos h).1, by rw [(owFst_pos h).2]; decide⟩

/-- Everything owed after the first exchange's sends lies above the first receives. -/
theorem owed_above_recv (c : Dev nD) (s : Fin 16) (g : GSem nD τ sig) (u : Unit) (h : 0 < (owedFrom (owSnd c) 0) g u) :
    g.1.2 = .tc ∧ semLev (semAt (some (.inr (1, s)))) < semLev g.2 :=
  ⟨(owSnd_pos h).1, by rw [(owSnd_pos h).2, show semAt (some (.inr (1, s))) = .dma (semOf (.inr (1, s))) from rfl, semLev_own]; exact (by decide : 2 < 3)⟩

/-- Everything owed at launch lies above the copies' own cells. -/
theorem owed_above_copy (c : Dev nD) (i : Fin 2) (g : GSem nD τ sig) (u : Unit) (h : 0 < (owedFrom (owSnd c) 0 + owedFrom (owFst c) 0) g u) :
    g.1.2 = .tc ∧ semLev (semAt (some (.inl i))) < semLev g.2 :=
  ⟨(owed_above_bar c g u h).1, by
    rw [show semAt (some (.inl i)) = .dma (semOf (.inl i)) from rfl, semLev_own]; exact lt_trans Nat.one_pos (owed_above_bar c g u h).2⟩

theorem owed_nothing (n : ℕ) (g : GSem nD τ sig) (u : Unit) (h : 0 < (0 : CellTallies nD τ sig Unit) g u) : g.1.2 = .tc ∧ n < semLev g.2 :=
  absurd h (Nat.lt_irrefl 0)

theorem step_barrier (K : Dev nD × Option Own → ℕ) (c : Dev nD) {α : Type} {Q : α → sProp 𝕄} {kt : PUnit → Prog (TpuEff nD τ sig (Elt F) Λ₀ .tc) α} :
    iprop(known m K ∗ levAts L lv ∗ owesX c (owedFrom (owSnd c) 0 + owedFrom (owFst c) 0) ∗ cred (tallyAt (cell c none) () 15) ∗ atPos ER (cell c none) 0 ∅ 0)
      ⊢ iprop(((owesX c (owedFrom (owSnd c) 0 + owedFrom (owFst c) 0) ∗ (bigSep Finset.univ fun j => barPay c (tgt c j)) ∗ semVal (cell c none) 0)
          -∗ wp frame (wpE (defs₀ (F := F)) 𝒱₀ (c : Thread nD τ) none) Set.univ (kt ⟨⟩) Q)
      -∗ wp frame (wpE (defs₀ (F := F)) 𝒱₀ (c : Thread nD τ) none) Set.univ (.op (.semWait barS (15#32 : BitVec 32).toInt) kt) Q) := by
  rw [show (15#32 : BitVec 32).toInt = (((15#32 : BitVec 32).toNat : ℕ) : ℤ) from rfl]
  have hexp : 0 + (15#32).toNat = (sched m).expect (cell c none) 0 := by rw [expect_bar]; decide
  unfold owesX
  iintro ⟨#HK, #Hlev, ⟨%W, HO⟩, HC, Hat⟩ Hk
  iapply (Rounds.wp_wait_rest_token 𝒱₀ ER (sched m) (c : Thread nD τ) none (κ := K (c, none))
      (wpE_semWait_eq 𝒱₀ (c : Thread nD τ) none Set.univ) (Set.mem_univ _) () (O := owedFrom (owSnd c) 0 + owedFrom (owFst c) 0) (W := W) (R := 0) (m := 0) (T := ∅)
      hexp) $$ [HC HO Hat]
  · isplitr; · iapply (known_inv m K c none); iexact HK
    isplitl [HC]; · iexact HC
    isplitl [HO]; · iexact HO
    isplitr; · iapply (mayWait_of c _ 1 _ (le_refl _) (owed_above_bar c)); iexact Hlev
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (cell c none))) $$ [Hat] with Hz
  · isplitr; · iapply (known_inv m K c none); iexact HK
    iexact Hat
  iapply Hk
  isplitl [HO]; · iexists _; iexact HO
  isplitl [Hp] <;> iassumption

/-- A cell nothing is ever put on closes at once. -/
theorem close_idle (K : Dev nD × Option Own → ℕ) (c : Dev nD) (o : Own) (h : ¬ Active c o) :
    iprop(known m K ∗ atPos ER (cell c (some o)) 0 ∅ 0) ⊢ (|={Set.univ}=> semVal (cell c (some o)) 0 : sProp 𝕄) := by
  iintro ⟨#HK, Hat⟩
  iapply (Rounds.cell_close ER (sched m) (Set.mem_univ (K (c, some o))) (fun h => h) (R := 0) (duties_idle m c o h))
  isplitr; · iapply (known_inv m K c (some o)); iexact HK
  iexact Hat

theorem copy_active (c : Dev nD) (i : Fin 2) : Active c (.inl i) := by unfold Active; trivial

/-! ## The copies of the weight columns -/

theorem step_copyK (K : Dev nD × Option Own → ℕ) (c : Dev nD) (q : DmaSem sig) (hq : q = semOf (.inl 0)) (fd : Buf (Elt F) ((c : Thread nD τ).loc cc0_scratch0))
    {hsrc : (colsM kHbm c).view.WordExact} {hdst : kM.view.WordExact} {hsem : DmaTarget.Typed (nD := nD) .hbm (.dma q) (DmaTarget.here (p := Proc.tc) kM)}
    {α : Type} {Q : α → sProp 𝕄} {kt : PUnit → Prog (TpuEff nD τ sig (Elt F) Λ₀ .tc) α} :
    iprop(known m K ∗ colsP m kHbm c ∗ (((c : Thread nD τ).loc cc0_scratch0) ↦{fullShare} fd) ∗ dutyTok ER (cell c (some (.inl 0))) 0 0)
      ⊢ iprop((cred (tallyAt (cell c (some (.inl 0))) () NC) -∗ wp frame (wpE (defs₀ (F := F)) 𝒱₀ (c : Thread nD τ) none) Set.univ (kt ⟨⟩) Q)
      -∗ wp frame (wpE (defs₀ (F := F)) 𝒱₀ (c : Thread nD τ) none) Set.univ (.op (.enqueueDma (colsM kHbm c) (.here kM) (.dma q) hsrc hdst hsem) kt) Q) := by
  subst hq
  have hd : (0 : Fin 16) ∈ (sched m).duties (cell c (some (.inl 0))) 0 := by rw [duties_active m c (.inl 0) (copy_active c 0)]; exact Finset.mem_singleton_self _
  have hset : kM.view.set = Finset.univ := View.set_whole _
  unfold colsP
  iintro ⟨#HK, Hsrc, Hdst, Ht⟩
  iapply (Rounds.wp_copy_pointsTo 𝒱₀ ER (sched m) (c : Thread nD τ) none (src := colsM kHbm c) (dst := kM) (q := fullShare)
      (fs := m (kHbm.view.loc (c : Thread nD τ))) (fd := fd) (κ := K (c, some (.inl 0))) (r := 0) (d := 0) hd () NC rfl (amount_own m c _ 0)
      (by rw [payload_own]; unfold ownPay colsP
          rw [hset, show (kM.view.write (Elt F) fd ((colsM kHbm c).view.read (Elt F) (m (kHbm.view.loc (c : Thread nD τ)))) Finset.univ) = wkAt m c from View.write_whole_univ _ _ _]))
  isplitr; · iapply (known_inv m K c (some (.inl 0))); iexact HK
  isplitl [Hsrc]; · iexact Hsrc
  isplitl [Hdst]; · rw [hset]; iexact Hdst
  isplitl [Ht]; · iexact Ht
  iapply (known_reached m K c (some (.inl 0))); iexact HK

theorem step_copyV (K : Dev nD × Option Own → ℕ) (c : Dev nD) (q : DmaSem sig) (hq : q = semOf (.inl 1)) (fd : Buf (Elt F) ((c : Thread nD τ).loc cc0_scratch1))
    {hsrc : (colsM vHbm c).view.WordExact} {hdst : vM.view.WordExact} {hsem : DmaTarget.Typed (nD := nD) .hbm (.dma q) (DmaTarget.here (p := Proc.tc) vM)}
    {α : Type} {Q : α → sProp 𝕄} {kt : PUnit → Prog (TpuEff nD τ sig (Elt F) Λ₀ .tc) α} :
    iprop(known m K ∗ colsP m vHbm c ∗ (((c : Thread nD τ).loc cc0_scratch1) ↦{fullShare} fd) ∗ dutyTok ER (cell c (some (.inl 1))) 0 0)
      ⊢ iprop((cred (tallyAt (cell c (some (.inl 1))) () NC) -∗ wp frame (wpE (defs₀ (F := F)) 𝒱₀ (c : Thread nD τ) none) Set.univ (kt ⟨⟩) Q)
      -∗ wp frame (wpE (defs₀ (F := F)) 𝒱₀ (c : Thread nD τ) none) Set.univ (.op (.enqueueDma (colsM vHbm c) (.here vM) (.dma q) hsrc hdst hsem) kt) Q) := by
  subst hq
  have hd : (0 : Fin 16) ∈ (sched m).duties (cell c (some (.inl 1))) 0 := by rw [duties_active m c (.inl 1) (copy_active c 1)]; exact Finset.mem_singleton_self _
  have hset : vM.view.set = Finset.univ := View.set_whole _
  unfold colsP
  iintro ⟨#HK, Hsrc, Hdst, Ht⟩
  iapply (Rounds.wp_copy_pointsTo 𝒱₀ ER (sched m) (c : Thread nD τ) none (src := colsM vHbm c) (dst := vM) (q := fullShare)
      (fs := m (vHbm.view.loc (c : Thread nD τ))) (fd := fd) (κ := K (c, some (.inl 1))) (r := 0) (d := 0) hd () NC rfl (amount_own m c _ 0)
      (by rw [payload_own]; unfold ownPay colsP
          rw [hset, show (vM.view.write (Elt F) fd ((colsM vHbm c).view.read (Elt F) (m (vHbm.view.loc (c : Thread nD τ)))) Finset.univ) = wvAt m c from View.write_whole_univ _ _ _]))
  isplitr; · iapply (known_inv m K c (some (.inl 1))); iexact HK
  isplitl [Hsrc]; · iexact Hsrc
  isplitl [Hdst]; · rw [hset]; iexact Hdst
  isplitl [Ht]; · iexact Ht
  iapply (known_reached m K c (some (.inl 1))); iexact HK

/-! ## A buffer and its sixteen slots -/

section Whole
variable (M : Memref sig .tc .vmem S16x32x1024 .bf16)

/-- The elements of all slots of a whole buffer are all its elements. -/
theorem slots_all : (Finset.univ.biUnion fun s : Fin 16 => (slotM M s).view.set) = M.view.set := slots_cover M

/-- A whole buffer is its slots, at one contents. -/
theorem whole_slots (hM : M.view.set = Finset.univ) (c : Dev nD) (q : PosShare TreeShare) (f : Buf (Elt F) (M.view.loc (c : Thread nD τ))) :
    ((M.view.loc (c : Thread nD τ)) ↦{q} f : sProp 𝕄) = bigSep Finset.univ fun s => slotP M c s q f := by
  have h := pointsTo_biUnion (ℓ := M.view.loc (c : Thread nD τ)) (q := q) (f := f) (Ix := Unit) (Name := ℕ) (U := UU) (Lvl := ℕ) (Finset.univ : Finset (Fin 16)) (fun s => (slotM M s).view.set)
    (fun s _ s' _ hs => slots_disjoint M hs)
  rw [slots_all M, hM] at h
  exact h

/-- Slots at whatever contents are the whole at some contents. -/
theorem slots_whole_any (hM : M.view.set = Finset.univ) (c : Dev nD) :
    bigSep Finset.univ (fun s => slotAny (F := F) M c s) ⊢ (iprop(∃ f, (M.view.loc (c : Thread nD τ)) ↦{fullShare} f) : sProp 𝕄) := by
  unfold slotAny
  refine (bigSep_exists_pi (Finset.univ : Finset (Fin 16)) (fun s f => slotP (F := F) M c s fullShare f)).trans ?_
  unfold slotP
  iintro ⟨%fs, H⟩
  ihave H := (pointsTo_biUnion_join Finset.univ (fun s : Fin 16 => (slotM M s).view.set) fs (fs 0) (fun s _ s' _ h => slots_disjoint M h)) $$ H
  icases H with ⟨%g, -, H⟩
  rw [slots_all M, hM]
  iexists g
  iexact H

end Whole

/-- A device's own slot of the result, dealt into one share for each device and what remains. -/
theorem own_slot_shares (c : Dev nD) (f : Buf (Elt F) (resM.view.loc (c : Thread nD τ))) :
    slotP resM c c fullShare f ⊢ iprop(slotP resM c c (shareDrop fullShare 16) f ∗ bigSep Finset.univ fun i : Fin 16 => slotP (F := F) resM c c (shareTok fullShare 16 i) f) := by
  unfold slotP; exact Transfers.pointsTo_toks_split fullShare 16
theorem own_slot_join (c : Dev nD) (f : Buf (Elt F) (resM.view.loc (c : Thread nD τ))) :
    iprop(slotP resM c c (shareDrop fullShare 16) f ∗ bigSep Finset.univ fun i : Fin 16 => slotP (F := F) resM c c (shareTok fullShare 16 i) f) ⊢ slotP resM c c fullShare f := by
  unfold slotP; exact Transfers.pointsTo_toks_join fullShare 16

end Cert.Exchange

end
-- ==== Proof.Sites.lean ====
/-
# The steps, at the places the kernel's text names

The rules of `Steps` and `Local` restated with the offsets, devices and semaphores as the text writes them, and the text's
loads and stores.
-/
module

public import proofs.«01_k».proof.Proof.Local
public import proofs.«01_k».proof.Proof.Gen.KernelIdeal.Skeleton

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-! ## The printed offsets and semaphores -/

section Printed
variable (c : Dev nD) (j : Fin 15)

/-- The slot of the `j`-th other device. -/
theorem off6_at (w : BitVec 32) (hw : w = BitVec.ofNat 32 (1 + j.val)) : k0_off6 c w = ![(tgt c j).val, 0, 0] := by
  subst hw; exact k0_off6_eq c j
/-- The cell of the `j`-th other device. -/
theorem off3_at (w : BitVec 32) (hw : w = BitVec.ofNat 32 (1 + j.val)) : k0_off3 c w = ![(tgt c j).val] := by
  subst hw; exact k0_off3_eq c j

theorem copy_sem0 : ((cc0_scratch4.slice (Rect.unit (s := S2) ![0] S1.size inb_S2_S1_0)).squeeze S_ squeezes_S1_S_).sem = semOf (.inl 0) := by decide
theorem copy_sem1 : ((cc0_scratch4.slice (Rect.unit (s := S2) ![1] S1.size inb_S2_S1_1)).squeeze S_ squeezes_S1_S_).sem = semOf (.inl 1) := by decide

/-- The four arrays of sixteen semaphores, in order. -/
abbrev semArr : Fin 4 → DmaSems sig S16
  | 0 => cc0_scratch5
  | 1 => cc0_scratch6
  | 2 => cc0_scratch7
  | 3 => cc0_scratch8

theorem semArr_entry (kind : Fin 4) (s : Fin 16) (off : Fin 1 → ℕ) (h : off = ![s.val]) (inb : ∀ a, off a + S1.size a ≤ S16.size a) :
    (((semArr kind).slice (Rect.unit (s := S16) off S1.size inb)).squeeze S_ squeezes_S1_S_).sem = semOf (.inr (kind, s)) := by
  have hs := s.isLt
  match kind with
  | 0 => exact sem_entry 6 hcc0_scratch5 s off h inb (by omega)
  | 1 => exact sem_entry 22 hcc0_scratch6 s off h inb (by omega)
  | 2 => exact sem_entry 38 hcc0_scratch7 s off h inb (by omega)
  | 3 => exact sem_entry 54 hcc0_scratch8 s off h inb (by omega)

end Printed

variable (K : Dev nD × Option Own → ℕ) (c : Dev nD)

/-! ## The transfers and the waits -/

section Transfers
variable (k : ℕ) (hk : k < 15) (w : BitVec 32) (hw : w = BitVec.ofNat 32 (1 + k)) (n : Dev nD) (hn : n.val = (c.val + k + 1) % 16)
  (inb3 : ∀ a, k0_off3 c w a + S1.size a ≤ S16.size a) (inb6 : ∀ a, k0_off6 c w a + S1x32x1024.size a ≤ S16x32x1024.size a)

/-- Slot of the `j`-th other device, as the text cuts it. -/
abbrev farSlot (M : Memref sig .tc .vmem S16x32x1024 .bf16) : Memref sig .tc .vmem S32x1024 .bf16 :=
  (M.slice (Rect.unit (s := S16x32x1024) (k0_off6 c w) S1x32x1024.size inb6) (fun _ => rfl)).squeeze S32x1024 squeezes_S1x32x1024_S32x1024
/-- The device's own slot, as the text cuts it. -/
abbrev nearSlot (M : Memref sig .tc .vmem S16x32x1024 .bf16) : Memref sig .tc .vmem S32x1024 .bf16 :=
  (M.slice (Rect.unit (s := S16x32x1024) (k0_off5 c) S1x32x1024.size (k0_off5_inb c)) (fun _ => rfl)).squeeze S32x1024 squeezes_S1x32x1024_S32x1024
/-- The cell of the `j`-th other device, and the device's own, in an array of sixteen. -/
abbrev farSem (A : DmaSems sig S16) : DmaSem sig := ((A.slice (Rect.unit (s := S16) (k0_off3 c w) S1.size inb3)).squeeze S_ squeezes_S1_S_).sem
abbrev nearSem (A : DmaSems sig S16) : DmaSem sig := ((A.slice (Rect.unit (s := S16) (k0_off4 c) S1.size (k0_off4_inb c))).squeeze S_ squeezes_S1_S_).sem

include hw in
theorem farSem_eq (kind : Fin 4) : farSem c w inb3 (semArr kind) = semOf (.inr (kind, tgt c ⟨k, hk⟩)) :=
  semArr_entry kind (tgt c ⟨k, hk⟩) _ (off3_at c ⟨k, hk⟩ w hw) inb3
theorem nearSem_eq (kind : Fin 4) : nearSem c (semArr kind) = semOf (.inr (kind, c)) :=
  semArr_entry kind c _ (k0_off4_eq c) _

include hk hw hn in
theorem site_fst
    {hsc : (nearSlot c recvM).view.ref.isScScratch = false} {hsrc : (farSlot c w inb6 sendM).view.WordExact} {hdst : (nearSlot c recvM).view.WordExact}
    {hsem : DmaTarget.Typed .vmem (.dma (nearSem c cc0_scratch6)) (.remote (Dev.tc n : Thread nD τ) (nearSlot c recvM) (.dma (farSem c w inb3 cc0_scratch5)) hsc)}
    {α : Type} {Q : α → sProp 𝕄} {kt : PUnit → Prog (TpuEff nD τ sig (Elt F) Λ₀ .tc) α} :
    FstSt m K c k ⊢ iprop((FstSt m K c (k + 1) -∗ wp frame (wpE (defs₀ (F := F)) 𝒱₀ (c : Thread nD τ) none) Set.univ (kt ⟨⟩) Q)
      -∗ wp frame (wpE (defs₀ (F := F)) 𝒱₀ (c : Thread nD τ) none) Set.univ
        (.op (.enqueueDma (farSlot c w inb6 sendM) (.remote (Dev.tc n : Thread nD τ) (nearSlot c recvM) (.dma (farSem c w inb3 cc0_scratch5)) hsc)
          (.dma (nearSem c cc0_scratch6)) hsrc hdst hsem) kt) Q) :=
  step_fst m K c k hk n hn _ _ (off6_at c ⟨k, hk⟩ w hw) (k0_off5_eq c) inb6 (k0_off5_inb c) _ _ (farSem_eq c k hk w hw inb3 0) (nearSem_eq c 1)

include hk hw hn in
theorem site_snd
    {hsc : (nearSlot c resM).view.ref.isScScratch = false} {hsrc hdst : (nearSlot c resM).view.WordExact}
    {hsem : DmaTarget.Typed .vmem (.dma (nearSem c cc0_scratch8)) (.remote (Dev.tc n : Thread nD τ) (nearSlot c resM) (.dma (farSem c w inb3 cc0_scratch7)) hsc)}
    {α : Type} {Q : α → sProp 𝕄} {kt : PUnit → Prog (TpuEff nD τ sig (Elt F) Λ₀ .tc) α} :
    SndSt m K c k ⊢ iprop((SndSt m K c (k + 1) -∗ wp frame (wpE (defs₀ (F := F)) 𝒱₀ (c : Thread nD τ) none) Set.univ (kt ⟨⟩) Q)
      -∗ wp frame (wpE (defs₀ (F := F)) 𝒱₀ (c : Thread nD τ) none) Set.univ
        (.op (.enqueueDma (nearSlot c resM) (.remote (Dev.tc n : Thread nD τ) (nearSlot c resM) (.dma (farSem c w inb3 cc0_scratch7)) hsc)
          (.dma (nearSem c cc0_scratch8)) hsrc hdst hsem) kt) Q) :=
  step_snd m K c k hk n hn _ (k0_off5_eq c) (k0_off5_inb c) _ _ (farSem_eq c k hk w hw inb3 2) (nearSem_eq c 3)

/-- A slot's transfer, of whichever buffer and however cut, is of one size. -/
theorem credit_slot (M : Memref sig .tc .vmem S16x32x1024 .bf16) (off : Fin 3 → ℕ) (inb : ∀ a, off a + S1x32x1024.size a ≤ S16x32x1024.size a) :
    ((M.slice (Rect.unit (s := S16x32x1024) off S1x32x1024.size inb) (fun _ => rfl)).squeeze S32x1024 squeezes_S1x32x1024_S32x1024).view.dmaCredit = NT := rfl

include hk hw in
/-- The waits of the first exchange's receives. -/
theorem site_recv (src : Memref sig .tc .vmem S32x1024 .bf16) (M : Memref sig .tc .vmem S16x32x1024 .bf16) (off : Fin 3 → ℕ) (inb : ∀ a, off a + S1x32x1024.size a ≤ S16x32x1024.size a) {h₁ : src.view.WordExact}
    {h₂ : ((M.slice (Rect.unit (s := S16x32x1024) off S1x32x1024.size inb) (fun _ => rfl)).squeeze S32x1024 squeezes_S1x32x1024_S32x1024).view.WordExact}
    {α : Type} {Q : α → sProp 𝕄} {kt : PUnit → Prog (TpuEff nD τ sig (Elt F) Λ₀ .tc) α} :
    WaitSt m K c 1 (owedFrom (owSnd c) 0) k
      ⊢ iprop((WaitSt m K c 1 (owedFrom (owSnd c) 0) (k + 1) -∗ wp frame (wpE (defs₀ (F := F)) 𝒱₀ (c : Thread nD τ) none) Set.univ (kt ⟨⟩) Q)
      -∗ wp frame (wpE (defs₀ (F := F)) 𝒱₀ (c : Thread nD τ) none) Set.univ
        (.op (.waitDma2 (farSem c w inb3 cc0_scratch6) src ((M.slice (Rect.unit (s := S16x32x1024) off S1x32x1024.size inb) (fun _ => rfl)).squeeze S32x1024 squeezes_S1x32x1024_S32x1024) h₁ h₂) kt) Q) :=
  step_wait m K c 1 _ k hk (owed_above_recv c _) _ (farSem_eq c k hk w hw inb3 1) _ _ (credit_slot M off inb)

include hk hw in
/-- The waits of the others, when nothing is owed any more. -/
theorem site_wait (kind : Fin 4) (A : DmaSems sig S16) (hA : A = semArr kind) (src : Memref sig .tc .vmem S32x1024 .bf16) (M : Memref sig .tc .vmem S16x32x1024 .bf16) (off : Fin 3 → ℕ) (inb : ∀ a, off a + S1x32x1024.size a ≤ S16x32x1024.size a) {h₁ : src.view.WordExact}
    {h₂ : ((M.slice (Rect.unit (s := S16x32x1024) off S1x32x1024.size inb) (fun _ => rfl)).squeeze S32x1024 squeezes_S1x32x1024_S32x1024).view.WordExact}
    {α : Type} {Q : α → sProp 𝕄} {kt : PUnit → Prog (TpuEff nD τ sig (Elt F) Λ₀ .tc) α} :
    WaitSt m K c kind 0 k
      ⊢ iprop((WaitSt m K c kind 0 (k + 1) -∗ wp frame (wpE (defs₀ (F := F)) 𝒱₀ (c : Thread nD τ) none) Set.univ (kt ⟨⟩) Q)
      -∗ wp frame (wpE (defs₀ (F := F)) 𝒱₀ (c : Thread nD τ) none) Set.univ
        (.op (.waitDma2 (farSem c w inb3 A) src ((M.slice (Rect.unit (s := S16x32x1024) off S1x32x1024.size inb) (fun _ => rfl)).squeeze S32x1024 squeezes_S1x32x1024_S32x1024) h₁ h₂) kt) Q) :=
  step_wait m K c kind 0 k hk (fun g u h => owed_nothing _ g u h) _ (by subst hA; exact farSem_eq c k hk w hw inb3 kind) _ _ (credit_slot M off inb)

end Transfers

end Cert.Exchange

end
-- ==== Proof.Phases.lean ====
/-
# Between the phases of one device's run

The loads and stores of the text, and what each phase of a run is entered with and left with.
-/
module

public import proofs.«01_k».proof.Proof.Sites
public import Idealize.ShloMosaic.Lib.Pipeline.Value

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Option Own → ℕ) (c : Dev nD)

/-! ## Loads and stores -/

section Access
variable (M : Memref sig .tc .vmem S16x32x1024 .bf16) (off : Fin 3 → ℕ) (ho : off = ![c.val, 0, 0])
  (inb : ∀ a, off a + S1x32x1024.size a ≤ S16x32x1024.size a)

include ho in
/-- A load of the device's own slot. -/
theorem load_own (q : PosShare TreeShare) (f : Buf (Elt F) (M.view.loc (c : Thread nD τ)))
    {hl : M.view.LoadsAt (Rect.unit (s := S16x32x1024) off S1x32x1024.size inb).toLoadRect}
    {α : Type} {Q : α → sProp 𝕄} {kt : Vec F S1x32x1024 .bf16 → Prog (TpuEff nD τ sig (Elt F) Λ₀ .tc) α} :
    slotP M c c q f ⊢ iprop((slotP M c c q f -∗ wp frame (wpE (defs₀ (F := F)) 𝒱₀ (c : Thread nD τ) none) Set.univ
          (kt (M.view.readAt (Elt F) (Rect.unit (s := S16x32x1024) off S1x32x1024.size inb).toLoadRect f)) Q)
      -∗ wp frame (wpE (defs₀ (F := F)) 𝒱₀ (c : Thread nD τ) none) Set.univ (.op (.load M (Rect.unit (s := S16x32x1024) off S1x32x1024.size inb).toLoadRect hl) kt) Q) := by
  subst ho
  unfold slotP
  exact wp_load_rect 𝒱₀ (c : Thread nD τ) none Set.univ (m := M) (r := slotR c) (by rw [access_slot])

include ho in
/-- A store to the device's own slot, of what the contents `g` hold there. -/
theorem store_own (f g : Buf (Elt F) (M.view.loc (c : Thread nD τ))) (w : Vec F S1x32x1024 .bf16)
    (h : ∀ a b, w (ix3 (0 : Fin 1) a b) = M.view.read (Elt F) g (ix3 (c : Fin 16) a b))
    {hx : (M.access (Rect.unit (s := S16x32x1024) off S1x32x1024.size inb)).Stores Finset.univ}
    {hm : (Finset.univ : Finset S1x32x1024.Idx) = Finset.univ ∨ ∀ a, (Rect.unit (s := S16x32x1024) off S1x32x1024.size inb).stride a = 1}
    {α : Type} {Q : α → sProp 𝕄} {kt : PUnit → Prog (TpuEff nD τ sig (Elt F) Λ₀ .tc) α} :
    slotP M c c fullShare f ⊢ iprop((slotP M c c fullShare g -∗ wp frame (wpE (defs₀ (F := F)) 𝒱₀ (c : Thread nD τ) none) Set.univ (kt ⟨⟩) Q)
      -∗ wp frame (wpE (defs₀ (F := F)) 𝒱₀ (c : Thread nD τ) none) Set.univ (.op (.store M (Rect.unit (s := S16x32x1024) off S1x32x1024.size inb) w Finset.univ hx hm) kt) Q) := by
  subst ho
  unfold slotP
  iintro H Hk
  iapply (wp_store 𝒱₀ (c : Thread nD τ) none Set.univ (m := M) (r := slotR c) (Mk := Finset.univ) (by rw [View.setOn_univ, access_slot])) $$ H
  iintro H
  iapply Hk
  iapply (Entails.of_eq (pointsTo_congr (slot_store M c f g w h)))
  iexact H

end Access

theorem zero2 : (![0, 0] : Fin 2 → ℕ) = fun _ => 0 := funext fun a => by fin_cases a <;> rfl
theorem zero3 : (![0, 0, 0] : Fin 3 → ℕ) = fun _ => 0 := funext fun a => by fin_cases a <;> rfl

/-! ## Families side by side -/

theorem fam2 (A B : Fin 15 → sProp 𝕄) : iprop((bigSep Finset.univ A) ∗ bigSep Finset.univ B) ⊢ bigSep Finset.univ fun j => iprop(A j ∗ B j) :=
  Entails.of_eq (bigSep_sep' _ _ _).symm
theorem fam2_split (A B : Fin 15 → sProp 𝕄) : (bigSep Finset.univ fun j => iprop(A j ∗ B j)) ⊢ iprop((bigSep Finset.univ A) ∗ bigSep Finset.univ B) :=
  Entails.of_eq (bigSep_sep' _ _ _)
theorem fam3 (A B C : Fin 15 → sProp 𝕄) :
    iprop((bigSep Finset.univ A) ∗ (bigSep Finset.univ B) ∗ bigSep Finset.univ C) ⊢ bigSep Finset.univ fun j => iprop(A j ∗ B j ∗ C j) := by
  iintro ⟨HA, HB, HC⟩
  iapply (fam2 A (fun j => iprop(B j ∗ C j)))
  isplitl [HA]; · iexact HA
  iapply (fam2 B C)
  isplitl [HB] <;> iassumption

theorem slot_any (M : Memref sig .tc .vmem S16x32x1024 .bf16) (s : Fin 16) (f : Buf (Elt F) (M.view.loc (c : Thread nD τ))) :
    slotP M c s fullShare f ⊢ slotAny M c s := by
  unfold slotAny
  iintro H; iexists f; iexact H

/-! ## The families a run carries -/

def barToks : sProp 𝕄 := bigSep Finset.univ fun j : Fin 15 => dutyTok ER (cell (tgt c j) none) 0 c
def sendToks (out inn : Fin 4) : sProp 𝕄 :=
  bigSep Finset.univ fun j : Fin 15 => iprop(dutyTok ER (cell c (some (.inr (out, tgt c j)))) 0 0 ∗ dutyTok ER (cell (tgt c j) (some (.inr (inn, c)))) 0 0)
def posOf (kind : Fin 4) : sProp 𝕄 := bigSep Finset.univ fun s : Fin 16 => atPos ER (cell c (some (.inr (kind, s)))) 0 ∅ 0
def credOf (kind : Fin 4) : sProp 𝕄 := bigSep Finset.univ fun j : Fin 15 => sentCred c kind j
def zeroOf (kind : Fin 4) : sProp 𝕄 := bigSep Finset.univ fun s : Fin 16 => semVal (cell c (some (.inr (kind, s)))) 0
def paysOf (kind : Fin 4) : sProp 𝕄 := bigSep Finset.univ fun j : Fin 15 => ownPay m c (.inr (kind, tgt c j))
def farSlots (M : Memref sig .tc .vmem S16x32x1024 .bf16) (f : Buf (Elt F) (M.view.loc (c : Thread nD τ))) : sProp 𝕄 :=
  bigSep Finset.univ fun j : Fin 15 => slotP M c (tgt c j) fullShare f
/-- The places at the other devices the second exchange writes. -/
def resPlaces : sProp 𝕄 := bigSep Finset.univ fun j : Fin 15 => slotAny (F := F) resM (tgt c j) c

/-- A whole buffer is the device's own slot and the fifteen others. -/
theorem deal_slots (M : Memref sig .tc .vmem S16x32x1024 .bf16) (hM : M.view.set = Finset.univ) (f : Buf (Elt F) (M.view.loc (c : Thread nD τ))) :
    ((M.view.loc (c : Thread nD τ)) ↦{fullShare} f : sProp 𝕄) = iprop(slotP M c c fullShare f ∗ farSlots c M f) := by
  rw [whole_slots M hM c fullShare f, bigSep_others c]; rfl

theorem any_slots (M : Memref sig .tc .vmem S16x32x1024 .bf16) (f : Buf (Elt F) (M.view.loc (c : Thread nD τ))) :
    farSlots c M f ⊢ bigSep Finset.univ fun j : Fin 15 => slotAny (F := F) M c (tgt c j) := by
  unfold farSlots
  exact bigSep_mono fun j _ => slot_any c M (tgt c j) f

/-! ## Entering and leaving the phases -/

theorem enter_sig (f : Buf (Elt F) (recvM.view.loc (c : Thread nD τ))) (g : Buf (Elt F) (resM.view.loc (c : Thread nD τ))) :
    iprop(known m K ∗ owesX c (O₀ c) ∗ barToks c ∗ farSlots c recvM f ∗ farSlots c resM g) ⊢ SigSt m K c 0 := by
  unfold SigSt barToks
  iintro ⟨#HK, HO, HT, Hr, Hs⟩
  ihave Hr := (any_slots c recvM f) $$ Hr
  ihave Hs := (any_slots c resM g) $$ Hs
  isplitr; · iexact HK
  isplitl [HO]; · iexact HO
  iapply (mix_start (F := F))
  unfold sigTodo
  iapply (fam3 (F := F))
  isplitl [HT]; · iexact HT
  isplitl [Hr] <;> iassumption

theorem leave_sig : SigSt m K c 15 ⊢ owesX (F := F) c (owedFrom (owSnd c) 0 + owedFrom (owFst c) 0) := by
  unfold SigSt
  rw [owedFrom_done, add_zero]
  iintro ⟨-, HO, -⟩
  iexact HO

theorem enter_fst : iprop(known m K ∗ owesX c (owedFrom (owSnd c) 0 + owedFrom (owFst c) 0) ∗ farSlots c sendM (partialAt m c)
      ∗ (bigSep Finset.univ fun j => barPay c (tgt c j)) ∗ sendToks c 0 1) ⊢ iprop(FstSt m K c 0 ∗ resPlaces (F := F) c) := by
  unfold FstSt sendToks resPlaces farSlots barPay
  iintro ⟨#HK, HO, Hs, Hb, HT⟩
  ihave H := (fam2_split (F := F) _ _) $$ Hb
  icases H with ⟨Hr, Hp⟩
  isplitr [Hp]
  · isplitr; · iexact HK
    isplitl [HO]; · iexact HO
    iapply (mix_start (F := F))
    unfold fstTodo
    iapply (fam3 (F := F))
    isplitl [Hs]; · iexact Hs
    isplitl [Hr] <;> iassumption
  · iexact Hp

theorem leave_fst : FstSt m K c 15 ⊢ iprop(owesX (F := F) c (owedFrom (owSnd c) 0) ∗ credOf c 0) := by
  unfold FstSt credOf
  rw [owedFrom_done, add_zero]
  iintro ⟨-, HO, HM⟩
  isplitl [HO]; · iexact HO
  iapply (mix_end (F := F)); iexact HM

theorem enter_wait (kind : Fin 4) (O : CellTallies nD τ sig Unit) :
    iprop(known m K ∗ levAts L lv ∗ owesX c O ∗ credOf c kind ∗ posOf c kind)
      ⊢ (|={Set.univ}=> iprop(WaitSt m K c kind O 0 ∗ semVal (cell c (some (.inr (kind, c)))) 0) : sProp 𝕄) := by
  unfold WaitSt credOf posOf
  rw [bigSep_others c (fun s => atPos ER (cell c (some (.inr (kind, s)))) 0 ∅ 0)]
  iintro ⟨#HK, #Hlev, HO, HC, Hat, Hats⟩
  imod (close_idle m K c (.inr (kind, c)) (fun h => h rfl)) $$ [Hat] with Hz
  · isplitr; · iexact HK
    iexact Hat
  imodintro
  isplitr [Hz]
  · isplitr; · iexact HK
    isplitr; · iexact Hlev
    isplitl [HO]; · iexact HO
    iapply (mix_start (F := F))
    unfold waitTodo
    iapply (fam2 (F := F))
    isplitl [HC]; · unfold sentCred; iexact HC
    iexact Hats
  · iexact Hz

theorem leave_wait (kind : Fin 4) (O : CellTallies nD τ sig Unit) :
    iprop(WaitSt m K c kind O 15 ∗ semVal (cell c (some (.inr (kind, c)))) 0) ⊢ iprop(owesX c O ∗ paysOf m c kind ∗ zeroOf c kind) := by
  unfold WaitSt paysOf zeroOf
  rw [bigSep_others c (fun s => semVal (cell c (some (.inr (kind, s)))) 0)]
  iintro ⟨⟨-, -, HO, HM⟩, Hz⟩
  ihave H := (mix_end (F := F) _ _) $$ HM
  unfold waitDone
  ihave H := (fam2_split (F := F) _ _) $$ H
  icases H with ⟨Hp, Hzs⟩
  isplitl [HO]; · iexact HO
  isplitl [Hp]; · iexact Hp
  isplitl [Hz] <;> iassumption

theorem enter_snd : iprop(known m K ∗ owesX c (owedFrom (owSnd c) 0) ∗ slotP resM c c fullShare (resAt m) ∗ resPlaces c ∗ sendToks c 2 3)
      ⊢ iprop(SndSt m K c 0 ∗ slotP resM c c (shareDrop fullShare 16) (resAt m) ∗ slotP resM c c (shareTok fullShare 16 (c : Fin 16)) (resAt m)) := by
  have h := own_slot_shares c (resAt m)
  rw [bigSep_others c (fun i : Fin 16 => slotP (F := F) resM c c (shareTok fullShare 16 i) (resAt m))] at h
  unfold SndSt sendToks resPlaces
  iintro ⟨#HK, HO, Hs, Hp, HT⟩
  ihave H := h $$ Hs
  icases H with ⟨Hd, Hc, Hs⟩
  isplitr [Hd Hc]
  · isplitr; · iexact HK
    isplitl [HO]; · iexact HO
    iapply (mix_start (F := F))
    unfold sndTodo
    iapply (fam3 (F := F))
    isplitl [Hs]; · iexact Hs
    isplitl [Hp] <;> iassumption
  · isplitl [Hd] <;> iassumption

theorem leave_snd : SndSt m K c 15 ⊢ iprop(owesX (F := F) c 0 ∗ credOf c 2) := by
  unfold SndSt credOf
  rw [owedFrom_done]
  iintro ⟨-, HO, HM⟩
  isplitl [HO]; · iexact HO
  iapply (mix_end (F := F)); iexact HM

/-! ## Putting the buffers together again -/

theorem gather_recv : iprop(slotP recvM c c fullShare (recvAt m c) ∗ paysOf m c 1) ⊢ ((recvM.view.loc (c : Thread nD τ)) ↦{fullShare} recvAt m c : sProp 𝕄) := by
  rw [deal_slots c recvM (View.set_whole _)]; exact BI.Entails.refl _

theorem gather_send (f : Buf (Elt F) (sendM.view.loc (c : Thread nD τ))) :
    iprop(slotP sendM c c fullShare f ∗ paysOf m c 0) ⊢ (iprop(∃ f, (sendM.view.loc (c : Thread nD τ)) ↦{fullShare} f) : sProp 𝕄) := by
  unfold paysOf
  have h := slots_whole_any (F := F) sendM (View.set_whole _) c
  rw [bigSep_others c (fun s => slotAny (F := F) sendM c s)] at h
  iintro ⟨Hc, Hp⟩
  iapply h
  isplitl [Hc]
  · iapply (slot_any c sendM c f); iexact Hc
  · iexact Hp

theorem gather_res : iprop((slotP resM c c (shareDrop fullShare 16) (resAt m) ∗ slotP resM c c (shareTok fullShare 16 (c : Fin 16)) (resAt m)) ∗ paysOf m c 2 ∗ paysOf m c 3)
      ⊢ ((resM.view.loc (c : Thread nD τ)) ↦{fullShare} resAt m : sProp 𝕄) := by
  rw [deal_slots c resM (View.set_whole _)]
  have h := own_slot_join c (resAt m)
  rw [bigSep_others c (fun i : Fin 16 => slotP (F := F) resM c c (shareTok fullShare 16 i) (resAt m))] at h
  unfold paysOf farSlots
  iintro ⟨⟨Hd, Hc⟩, Hp, Hq⟩
  isplitr [Hq]
  · iapply h
    isplitl [Hd]; · iexact Hd
    isplitl [Hc]; · iexact Hc
    iexact Hp
  · iexact Hq

/-! ## What is stored in the own slots -/

theorem recv_own (off : Fin 3 → ℕ) (ho : off = ![c.val, 0, 0]) (inb : ∀ a, off a + S1x32x1024.size a ≤ S16x32x1024.size a) (a : Fin 32) (b : Fin 1024) :
    k0_pay10 (F := F) (k0_pay9 (sendM.view.readAt (Elt F) (Rect.unit (s := S16x32x1024) off S1x32x1024.size inb).toLoadRect (partialAt m c))) (ix3 (0 : Fin 1) a b)
      = recvM.view.read (Elt F) (recvAt m c) (ix3 (c : Fin 16) a b) := by
  subst ho
  unfold k0_pay10 k0_pay9
  rw [shapeCast_shapeCast]
  exact slot_readAt sendM c (partialAt m c) a b

theorem res_own (a : Fin 32) (b : Fin 1024) :
    k0_pay11 (F := F) (recvAt m c) (ix3 (0 : Fin 1) a b) = resM.view.read (Elt F) (resAt m) (ix3 (c : Fin 16) a b) := rfl

end Cert.Exchange

end
-- ==== Proof.Body.lean ====
/-
# One device's run
-/
module

public import proofs.«01_k».proof.Proof.Phases

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Option Own → ℕ) (c : Dev nD)

/-! ## Whole loads and the whole store -/

theorem read_x (f : Vec F S1x512x1024 .f32) : xM.view.readAt (Elt F) (Rect.unit (s := S1x512x1024) ![0, 0, 0] S1x512x1024.size inb_S1x512x1024_S1x512x1024_0_0_0).toLoadRect f = f :=
  Memref.readAt_unit_zero (Elt F) cc0_stg0_0 zero3 _ f
theorem read_q (f : Vec F S1024x1024 .f32) : qM.view.readAt (Elt F) (Rect.unit (s := S1024x1024) ![0, 0] S1024x1024.size inb_S1024x1024_S1024x1024_0_0).toLoadRect f = f :=
  Memref.readAt_unit_zero (Elt F) cc0_stg1_0 zero2 _ f
theorem read_o (f : Vec F S1024x1024 .f32) : oM.view.readAt (Elt F) (Rect.unit (s := S1024x1024) ![0, 0] S1024x1024.size inb_S1024x1024_S1024x1024_0_0).toLoadRect f = f :=
  Memref.readAt_unit_zero (Elt F) cc0_stg2_0 zero2 _ f
theorem read_k (f : Vec F S1024x256 .f32) : kM.view.readAt (Elt F) (Rect.unit (s := S1024x256) ![0, 0] S1024x256.size inb_S1024x256_S1024x256_0_0).toLoadRect f = f :=
  Memref.readAt_unit_zero (Elt F) cc0_scratch0 zero2 _ f
theorem read_v (f : Vec F S1024x256 .f32) : vM.view.readAt (Elt F) (Rect.unit (s := S1024x256) ![0, 0] S1024x256.size inb_S1024x256_S1024x256_0_0).toLoadRect f = f :=
  Memref.readAt_unit_zero (Elt F) cc0_scratch1 zero2 _ f
theorem read_recv (f : Vec F S16x32x1024 .bf16) : recvM.view.readAt (Elt F) (Rect.unit (s := S16x32x1024) ![0, 0, 0] S16x32x1024.size inb_S16x32x1024_S16x32x1024_0_0_0).toLoadRect f = f :=
  Memref.readAt_unit_zero (Elt F) cc0_scratch3 zero3 _ f
/-- The partial result stored whole. -/
theorem store_send (f w : Vec F S16x32x1024 .bf16) (inb : ∀ a, (![0, 0, 0] : Fin 3 → ℕ) a + S16x32x1024.size a ≤ S16x32x1024.size a)
    {hx : (sendM.access (Rect.unit (s := S16x32x1024) ![0, 0, 0] S16x32x1024.size inb)).Stores Finset.univ}
    {hm : (Finset.univ : Finset S16x32x1024.Idx) = Finset.univ ∨ ∀ a, (Rect.unit (s := S16x32x1024) ![0, 0, 0] S16x32x1024.size inb).stride a = 1}
    {α : Type} {Q : α → sProp 𝕄} {kt : PUnit → Prog (TpuEff nD τ sig (Elt F) Λ₀ .tc) α} :
    (((c : Thread nD τ).loc cc0_scratch2) ↦{fullShare} f : sProp 𝕄) ⊢ iprop(((((c : Thread nD τ).loc cc0_scratch2) ↦{fullShare} w) -∗ wp frame (wpE (defs₀ (F := F)) 𝒱₀ (c : Thread nD τ) none) Set.univ (kt ⟨⟩) Q)
      -∗ wp frame (wpE (defs₀ (F := F)) 𝒱₀ (c : Thread nD τ) none) Set.univ (.op (.store sendM (Rect.unit (s := S16x32x1024) ![0, 0, 0] S16x32x1024.size inb) w Finset.univ hx hm) kt) Q) := by
  refine (wp_store (Γ := []) (hx := hx) (hm := hm) (defs := defs₀ (F := F)) 𝒱₀ (c : Thread nD τ) none Set.univ (m := sendM) (r := Rect.unit (s := S16x32x1024) ![0, 0, 0] S16x32x1024.size inb) (w := w)
    (Mk := Finset.univ) (S := Finset.univ) (f := f) (k := kt) (Q := Q) (Finset.subset_univ _)).trans (Entails.of_eq ?_)
  rw [show (sendM.access (Rect.unit (s := S16x32x1024) ![0, 0, 0] S16x32x1024.size inb)).write (Elt F) f w Finset.univ = w from
    Memref.write_access_unit_zero_univ (Elt F) cc0_scratch2 zero3 inb f w]

theorem pays_k : ownPay m c (.inl 0) ⊢ iprop((((c : Thread nD τ).loc cc0_scratch0) ↦{fullShare} wkAt m c) ∗ colsP m kHbm c) := BI.Entails.refl _
theorem pays_v : ownPay m c (.inl 1) ⊢ iprop((((c : Thread nD τ).loc cc0_scratch1) ↦{fullShare} wvAt m c) ∗ colsP m vHbm c) := BI.Entails.refl _

/-! ## The run -/

/-- What a run starts from, besides the buffers. -/
def RunPre : sProp 𝕄 :=
  iprop(known m K ∗ levAts L lv ∗ owesX c (O₀ c) ∗ barToks c ∗ sendToks c 0 1 ∗ sendToks c 2 3
    ∗ dutyTok ER (cell c (some (.inl 0))) 0 0 ∗ dutyTok ER (cell c (some (.inl 1))) 0 0
    ∗ atPos ER (cell c none) 0 ∅ 0 ∗ atPos ER (cell c (some (.inl 0))) 0 ∅ 0 ∗ atPos ER (cell c (some (.inl 1))) 0 ∅ 0
    ∗ posOf c 0 ∗ posOf c 1 ∗ posOf c 2 ∗ posOf c 3
    ∗ cred (tallyAt (cell c none) () 15) ∗ credOf c 1 ∗ credOf c 3)

/-- The buffers a run starts from: the weight columns, the scratch buffers at whatever they hold, the staged arguments
    and the place of the result. -/
def RunBufs (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (g : Buf (Elt F) ((c : Thread nD τ).loc cc0_stg3_0)) : sProp 𝕄 :=
  iprop(colsP m kHbm c ∗ colsP m vHbm c
    ∗ (((c : Thread nD τ).loc cc0_scratch0) ↦{fullShare} f0) ∗ (((c : Thread nD τ).loc cc0_scratch1) ↦{fullShare} f1)
    ∗ (((c : Thread nD τ).loc cc0_scratch2) ↦{fullShare} f2) ∗ (((c : Thread nD τ).loc cc0_scratch3) ↦{fullShare} f3)
    ∗ (((c : Thread nD τ).loc cc0_stg0_0) ↦{fullShare} xAt m c) ∗ (((c : Thread nD τ).loc cc0_stg1_0) ↦{fullShare} wqAt m c)
    ∗ (((c : Thread nD τ).loc cc0_stg2_0) ↦{fullShare} woAt m c) ∗ (((c : Thread nD τ).loc cc0_stg3_0) ↦{fullShare} g))

/-- What a run ends in: nothing owed, every counter at zero, the arguments as they were, the result. -/
def RunPost : sProp 𝕄 :=
  iprop(owesX c 0
    ∗ (semVal (cell c none) 0 ∗ semVal (cell c (some (.inl 0))) 0 ∗ semVal (cell c (some (.inl 1))) 0 ∗ zeroOf c 0 ∗ zeroOf c 1 ∗ zeroOf c 2 ∗ zeroOf c 3)
    ∗ colsP m kHbm c ∗ colsP m vHbm c
    ∗ ((∃ f, ((c : Thread nD τ).loc cc0_scratch0) ↦{fullShare} f) ∗ (∃ f, ((c : Thread nD τ).loc cc0_scratch1) ↦{fullShare} f)
      ∗ (∃ f, ((c : Thread nD τ).loc cc0_scratch2) ↦{fullShare} f) ∗ (∃ f, ((c : Thread nD τ).loc cc0_scratch3) ↦{fullShare} f))
    ∗ (((c : Thread nD τ).loc cc0_stg0_0) ↦{fullShare} xAt m c) ∗ (((c : Thread nD τ).loc cc0_stg1_0) ↦{fullShare} wqAt m c)
    ∗ (((c : Thread nD τ).loc cc0_stg2_0) ↦{fullShare} woAt m c) ∗ (((c : Thread nD τ).loc cc0_stg3_0) ↦{fullShare} resAt m))

set_option maxHeartbeats 8000000 in
/-- One device's run, operation by operation. -/
theorem run_body (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (g : Buf (Elt F) ((c : Thread nD τ).loc cc0_stg3_0)) (Kt : PUnit → sProp 𝕄) :
    iprop(RunPre m K c ∗ RunBufs m c f0 f1 f2 f3 g)
      ⊢ iprop((RunPost m c -∗ Kt ⟨⟩) -∗ wp frame (wpE (defs₀ (F := F)) 𝒱₀ (c : Thread nD τ) none) Set.univ
          (cc0_body xM (Memref.isWhole_whole _) qM (Memref.isWhole_whole _) oM (Memref.isWhole_whole _) kHbm (Memref.isWhole_whole _) vHbm (Memref.isWhole_whole _)
            resM (Memref.isWhole_whole _) kM (Memref.isWhole_whole _) vM (Memref.isWhole_whole _) sendM (Memref.isWhole_whole _) recvM (Memref.isWhole_whole _)
            cc0_scratch4 cc0_scratch5 cc0_scratch6 cc0_scratch7 cc0_scratch8) Kt) := by
  simp only [cc0_body_eq_skeleton]; unfold cc0_body_skel
  rw [k0_part1_eq_skeleton]; unfold k0_part1_skel
  simp only [semSignalWord, semWaitWord, Prog.lift, Prog.bind_op, Prog.bind_ret, Prog.pure_eq_ret, wp_deviceId]
  unfold RunPre RunBufs
  iintro ⟨⟨#HK, #Hlev, HO, HtB, HtF, HtS, HtK, HtV, HaB, HaK, HaV, Ha0, Ha1, Ha2, Ha3, HcB, HcR, HcE⟩, ⟨Hk, Hv, Hf0, Hf1, Hf2, Hf3, Hx, Hq, Ho, Hr⟩⟩ HQ
  -- the weight columns start towards the scratch buffers
  iapply (step_copyK m K c _ copy_sem0 f0) $$ [Hk Hf0 HtK]
  · isplitr; · iexact HK
    isplitl [Hk]; · iexact Hk
    isplitl [Hf0] <;> iassumption
  iintro HcK
  iapply (step_copyV m K c _ copy_sem1 f1) $$ [Hv Hf1 HtV]
  · isplitr; · iexact HK
    isplitl [Hv]; · iexact Hv
    isplitl [Hf1] <;> iassumption
  iintro HcV
  -- every other device hears that the receive buffer and the result may be written
  ihave Hf3 := (Entails.of_eq (deal_slots c recvM (View.set_whole _) f3)) $$ Hf3
  icases Hf3 with ⟨Hown, Hfar⟩
  ihave Hr := (Entails.of_eq (deal_slots c resM (View.set_whole _) g)) $$ Hr
  icases Hr with ⟨Hres, HresF⟩
  ihave HS := (enter_sig m K c f3 g) $$ [HO HtB Hfar HresF]
  · isplitr; · iexact HK
    isplitl [HO]; · iexact HO
    isplitl [HtB]; · iexact HtB
    isplitl [Hfar] <;> iassumption
  iapply (step_signal m K c 0 (by decide) ⟨k0_dev1 c, k0_dev1_lt c⟩ (k0_dev1_eq c)) $$ HS; iintro HS
  iapply (step_signal m K c 1 (by decide) ⟨k0_dev2 c, k0_dev2_lt c⟩ (k0_dev2_eq c)) $$ HS; iintro HS
  iapply (step_signal m K c 2 (by decide) ⟨k0_dev3 c, k0_dev3_lt c⟩ (k0_dev3_eq c)) $$ HS; iintro HS
  rw [k0_part2_eq_skeleton]; unfold k0_part2_skel
  simp only [semSignalWord, semWaitWord, Prog.lift, Prog.bind_op, Prog.bind_ret, Prog.pure_eq_ret, wp_deviceId]
  iapply (step_signal m K c 3 (by decide) ⟨k0_dev4 c, k0_dev4_lt c⟩ (k0_dev4_eq c)) $$ HS; iintro HS
  iapply (step_signal m K c 4 (by decide) ⟨k0_dev5 c, k0_dev5_lt c⟩ (k0_dev5_eq c)) $$ HS; iintro HS
  iapply (step_signal m K c 5 (by decide) ⟨k0_dev6 c, k0_dev6_lt c⟩ (k0_dev6_eq c)) $$ HS; iintro HS
  iapply (step_signal m K c 6 (by decide) ⟨k0_dev7 c, k0_dev7_lt c⟩ (k0_dev7_eq c)) $$ HS; iintro HS
  iapply (step_signal m K c 7 (by decide) ⟨k0_dev8 c, k0_dev8_lt c⟩ (k0_dev8_eq c)) $$ HS; iintro HS
  iapply (step_signal m K c 8 (by decide) ⟨k0_dev9 c, k0_dev9_lt c⟩ (k0_dev9_eq c)) $$ HS; iintro HS
  rw [k0_part3_eq_skeleton]; unfold k0_part3_skel
  simp only [semSignalWord, semWaitWord, Prog.lift, Prog.bind_op, Prog.bind_ret, Prog.pure_eq_ret, wp_deviceId]
  iapply (step_signal m K c 9 (by decide) ⟨k0_dev10 c, k0_dev10_lt c⟩ (k0_dev10_eq c)) $$ HS; iintro HS
  iapply (step_signal m K c 10 (by decide) ⟨k0_dev11 c, k0_dev11_lt c⟩ (k0_dev11_eq c)) $$ HS; iintro HS
  iapply (step_signal m K c 11 (by decide) ⟨k0_dev12 c, k0_dev12_lt c⟩ (k0_dev12_eq c)) $$ HS; iintro HS
  iapply (step_signal m K c 12 (by decide) ⟨k0_dev13 c, k0_dev13_lt c⟩ (k0_dev13_eq c)) $$ HS; iintro HS
  iapply (step_signal m K c 13 (by decide) ⟨k0_dev14 c, k0_dev14_lt c⟩ (k0_dev14_eq c)) $$ HS; iintro HS
  iapply (step_signal m K c 14 (by decide) ⟨k0_dev15 c, k0_dev15_lt c⟩ (k0_dev15_eq c)) $$ HS; iintro HS
  ihave HO := (leave_sig m K c) $$ HS
  -- the weight columns have come
  iapply (wait_own m K c (.inl 0) (copy_active c 0) _ (owed_above_copy c 0) _ copy_sem0 (colsM kHbm c) kM rfl) $$ [HO HcK HaK]
  · isplitr; · iexact HK
    isplitr; · iexact Hlev
    isplitl [HO]; · iexact HO
    isplitl [HcK]; · iexact HcK
    iexact HaK
  iintro ⟨HO, HpK, HzK⟩
  rw [k0_part4_eq_skeleton]; unfold k0_part4_skel
  simp only [semSignalWord, semWaitWord, Prog.lift, Prog.bind_op, Prog.bind_ret, Prog.pure_eq_ret, wp_deviceId]
  iapply (wait_own m K c (.inl 1) (copy_active c 1) _ (owed_above_copy c 1) _ copy_sem1 (colsM vHbm c) vM rfl) $$ [HO HcV HaV]
  · isplitr; · iexact HK
    isplitr; · iexact Hlev
    isplitl [HO]; · iexact HO
    isplitl [HcV]; · iexact HcV
    iexact HaV
  iintro ⟨HO, HpV, HzV⟩
  ihave HpK := (pays_k m c) $$ HpK
  icases HpK with ⟨Hf0, Hk⟩
  ihave HpV := (pays_v m c) $$ HpV
  icases HpV with ⟨Hf1, Hv⟩
  -- the partial result
  iapply (wp_load 𝒱₀ (c : Thread nD τ) none Set.univ (m := xM) (Finset.subset_univ _)) $$ Hx; iintro Hx
  iapply (wp_load 𝒱₀ (c : Thread nD τ) none Set.univ (m := qM) (Finset.subset_univ _)) $$ Hq; iintro Hq
  iapply (wp_load 𝒱₀ (c : Thread nD τ) none Set.univ (m := kM) (Finset.subset_univ _)) $$ Hf0; iintro Hf0
  iapply (wp_load 𝒱₀ (c : Thread nD τ) none Set.univ (m := vM) (Finset.subset_univ _)) $$ Hf1; iintro Hf1
  rw [read_x, read_q, read_k, read_v]
  rw [k0_part5_eq_skeleton]; unfold k0_part5_skel
  simp only [semSignalWord, semWaitWord, Prog.lift, Prog.bind_op, Prog.bind_ret, Prog.pure_eq_ret, wp_deviceId]
  iapply (wp_load 𝒱₀ (c : Thread nD τ) none Set.univ (m := oM) (Finset.subset_univ _)) $$ Ho; iintro Ho
  rw [read_o]
  iapply (wp_load 𝒱₀ (c : Thread nD τ) none Set.univ (m := sendM) (Finset.subset_univ _)) $$ Hf2; iintro Hf2
  iapply (store_send c f2 (partialAt m c) _) $$ Hf2; iintro Hf2
  ihave Hf2 := (Entails.of_eq (deal_slots c sendM (View.set_whole _) (partialAt m c))) $$ Hf2
  icases Hf2 with ⟨Hsown, Hsfar⟩
  iapply (load_own c sendM (k0_off2 c) (k0_off2_eq c) _ fullShare (partialAt m c)) $$ Hsown; iintro Hsown
  rw [k0_part6_eq_skeleton]; unfold k0_part6_skel
  simp only [semSignalWord, semWaitWord, Prog.lift, Prog.bind_op, Prog.bind_ret, Prog.pure_eq_ret, wp_deviceId]
  iapply (load_own c recvM (k0_off2 c) (k0_off2_eq c) _ fullShare f3) $$ Hown; iintro Hown
  iapply (store_own c recvM (k0_off2 c) (k0_off2_eq c) _ f3 (recvAt m c) _ (recv_own m c _ (k0_off2_eq c) _)) $$ Hown; iintro Hown
  -- every other device may be written
  iapply (step_barrier m K c) $$ [HO HcB HaB]
  · isplitr; · iexact HK
    isplitr; · iexact Hlev
    isplitl [HO]; · iexact HO
    isplitl [HcB] <;> iassumption
  iintro ⟨HO, Hb, HzB⟩
  ihave H := (enter_fst m K c) $$ [HO Hsfar Hb HtF]
  · isplitr; · iexact HK
    isplitl [HO]; · iexact HO
    isplitl [Hsfar]; · iexact Hsfar
    isplitl [Hb] <;> iassumption
  icases H with ⟨HS, Hplaces⟩
  iapply (site_fst m K c 0 (by decide) 1#32 rfl ⟨k0_dev16 c, k0_dev16_lt c⟩ (k0_dev16_eq c) _ _) $$ HS; iintro HS
  iapply (site_fst m K c 1 (by decide) 2#32 rfl ⟨k0_dev17 c, k0_dev17_lt c⟩ (k0_dev17_eq c) _ _) $$ HS; iintro HS
  rw [k0_part7_eq_skeleton]; unfold k0_part7_skel
  simp only [semSignalWord, semWaitWord, Prog.lift, Prog.bind_op, Prog.bind_ret, Prog.pure_eq_ret, wp_deviceId]
  iapply (site_fst m K c 2 (by decide) 3#32 rfl ⟨k0_dev18 c, k0_dev18_lt c⟩ (k0_dev18_eq c) _ _) $$ HS; iintro HS
  iapply (site_fst m K c 3 (by decide) 4#32 rfl ⟨k0_dev19 c, k0_dev19_lt c⟩ (k0_dev19_eq c) _ _) $$ HS; iintro HS
  iapply (site_fst m K c 4 (by decide) 5#32 rfl ⟨k0_dev20 c, k0_dev20_lt c⟩ (k0_dev20_eq c) _ _) $$ HS; iintro HS
  rw [k0_part8_eq_skeleton]; unfold k0_part8_skel
  simp only [semSignalWord, semWaitWord, Prog.lift, Prog.bind_op, Prog.bind_ret, Prog.pure_eq_ret, wp_deviceId]
  iapply (site_fst m K c 5 (by decide) 6#32 rfl ⟨k0_dev21 c, k0_dev21_lt c⟩ (k0_dev21_eq c) _ _) $$ HS; iintro HS
  iapply (site_fst m K c 6 (by decide) 7#32 rfl ⟨k0_dev22 c, k0_dev22_lt c⟩ (k0_dev22_eq c) _ _) $$ HS; iintro HS
  iapply (site_fst m K c 7 (by decide) 8#32 rfl ⟨k0_dev23 c, k0_dev23_lt c⟩ (k0_dev23_eq c) _ _) $$ HS; iintro HS
  rw [k0_part9_eq_skeleton]; unfold k0_part9_skel
  simp only [semSignalWord, semWaitWord, Prog.lift, Prog.bind_op, Prog.bind_ret, Prog.pure_eq_ret, wp_deviceId]
  iapply (site_fst m K c 8 (by decide) 9#32 rfl ⟨k0_dev24 c, k0_dev24_lt c⟩ (k0_dev24_eq c) _ _) $$ HS; iintro HS
  iapply (site_fst m K c 9 (by decide) 10#32 rfl ⟨k0_dev25 c, k0_dev25_lt c⟩ (k0_dev25_eq c) _ _) $$ HS; iintro HS
  iapply (site_fst m K c 10 (by decide) 11#32 rfl ⟨k0_dev26 c, k0_dev26_lt c⟩ (k0_dev26_eq c) _ _) $$ HS; iintro HS
  rw [k0_part10_eq_skeleton]; unfold k0_part10_skel
  simp only [semSignalWord, semWaitWord, Prog.lift, Prog.bind_op, Prog.bind_ret, Prog.pure_eq_ret, wp_deviceId]
  iapply (site_fst m K c 11 (by decide) 12#32 rfl ⟨k0_dev27 c, k0_dev27_lt c⟩ (k0_dev27_eq c) _ _) $$ HS; iintro HS
  iapply (site_fst m K c 12 (by decide) 13#32 rfl ⟨k0_dev28 c, k0_dev28_lt c⟩ (k0_dev28_eq c) _ _) $$ HS; iintro HS
  rw [k0_part11_eq_skeleton]; unfold k0_part11_skel
  simp only [semSignalWord, semWaitWord, Prog.lift, Prog.bind_op, Prog.bind_ret, Prog.pure_eq_ret, wp_deviceId]
  iapply (site_fst m K c 13 (by decide) 14#32 rfl ⟨k0_dev29 c, k0_dev29_lt c⟩ (k0_dev29_eq c) _ _) $$ HS; iintro HS
  iapply (site_fst m K c 14 (by decide) 15#32 rfl ⟨k0_dev30 c, k0_dev30_lt c⟩ (k0_dev30_eq c) _ _) $$ HS; iintro HS
  ihave H := (leave_fst m K c) $$ HS
  icases H with ⟨HO, HcF⟩
  -- the blocks of the others come in
  imod (enter_wait m K c 1 (owedFrom (owSnd c) 0)) $$ [HO HcR Ha1] with H
  · isplitr; · iexact HK
    isplitr; · iexact Hlev
    isplitl [HO]; · iexact HO
    isplitl [HcR] <;> iassumption
  icases H with ⟨HS, Hz⟩
  iapply (site_recv m K c 0 (by decide) 1#32 rfl _ _ _ _ _) $$ HS; iintro HS
  iapply (site_recv m K c 1 (by decide) 2#32 rfl _ _ _ _ _) $$ HS; iintro HS
  rw [k0_part12_eq_skeleton]; unfold k0_part12_skel
  simp only [semSignalWord, semWaitWord, Prog.lift, Prog.bind_op, Prog.bind_ret, Prog.pure_eq_ret, wp_deviceId]
  iapply (site_recv m K c 2 (by decide) 3#32 rfl _ _ _ _ _) $$ HS; iintro HS
  iapply (site_recv m K c 3 (by decide) 4#32 rfl _ _ _ _ _) $$ HS; iintro HS
  iapply (site_recv m K c 4 (by decide) 5#32 rfl _ _ _ _ _) $$ HS; iintro HS
  rw [k0_part13_eq_skeleton]; unfold k0_part13_skel
  simp only [semSignalWord, semWaitWord, Prog.lift, Prog.bind_op, Prog.bind_ret, Prog.pure_eq_ret, wp_deviceId]
  iapply (site_recv m K c 5 (by decide) 6#32 rfl _ _ _ _ _) $$ HS; iintro HS
  iapply (site_recv m K c 6 (by decide) 7#32 rfl _ _ _ _ _) $$ HS; iintro HS
  iapply (site_recv m K c 7 (by decide) 8#32 rfl _ _ _ _ _) $$ HS; iintro HS
  rw [k0_part14_eq_skeleton]; unfold k0_part14_skel
  simp only [semSignalWord, semWaitWord, Prog.lift, Prog.bind_op, Prog.bind_ret, Prog.pure_eq_ret, wp_deviceId]
  iapply (site_recv m K c 8 (by decide) 9#32 rfl _ _ _ _ _) $$ HS; iintro HS
  iapply (site_recv m K c 9 (by decide) 10#32 rfl _ _ _ _ _) $$ HS; iintro HS
  iapply (site_recv m K c 10 (by decide) 11#32 rfl _ _ _ _ _) $$ HS; iintro HS
  rw [k0_part15_eq_skeleton]; unfold k0_part15_skel
  simp only [semSignalWord, semWaitWord, Prog.lift, Prog.bind_op, Prog.bind_ret, Prog.pure_eq_ret, wp_deviceId]
  iapply (site_recv m K c 11 (by decide) 12#32 rfl _ _ _ _ _) $$ HS; iintro HS
  iapply (site_recv m K c 12 (by decide) 13#32 rfl _ _ _ _ _) $$ HS; iintro HS
  iapply (site_recv m K c 13 (by decide) 14#32 rfl _ _ _ _ _) $$ HS; iintro HS
  rw [k0_part16_eq_skeleton]; unfold k0_part16_skel
  simp only [semSignalWord, semWaitWord, Prog.lift, Prog.bind_op, Prog.bind_ret, Prog.pure_eq_ret, wp_deviceId]
  iapply (site_recv m K c 14 (by decide) 15#32 rfl _ _ _ _ _) $$ HS; iintro HS
  ihave H := (leave_wait m K c 1 (owedFrom (owSnd c) 0)) $$ [HS Hz]
  · isplitl [HS] <;> iassumption
  icases H with ⟨HO, Hp1, Hz1⟩
  -- the sum, and its way to the others
  ihave Hf3 := (gather_recv m c) $$ [Hown Hp1]
  · isplitl [Hown] <;> iassumption
  iapply (wp_load 𝒱₀ (c : Thread nD τ) none Set.univ (m := recvM) (Finset.subset_univ _)) $$ Hf3; iintro Hf3
  rw [read_recv]
  iapply (load_own c resM (k0_off2 c) (k0_off2_eq c) _ fullShare g) $$ Hres; iintro Hres
  iapply (store_own c resM (k0_off2 c) (k0_off2_eq c) _ g (resAt m) _ (res_own m c)) $$ Hres; iintro Hres
  ihave H := (enter_snd m K c) $$ [HO Hres Hplaces HtS]
  · isplitr; · iexact HK
    isplitl [HO]; · iexact HO
    isplitl [Hres]; · iexact Hres
    isplitl [Hplaces] <;> iassumption
  icases H with ⟨HS, Hshares⟩
  iapply (site_snd m K c 0 (by decide) 1#32 rfl ⟨k0_dev31 c, k0_dev31_lt c⟩ (k0_dev31_eq c) _) $$ HS; iintro HS
  rw [k0_part17_eq_skeleton]; unfold k0_part17_skel
  simp only [semSignalWord, semWaitWord, Prog.lift, Prog.bind_op, Prog.bind_ret, Prog.pure_eq_ret, wp_deviceId]
  iapply (site_snd m K c 1 (by decide) 2#32 rfl ⟨k0_dev32 c, k0_dev32_lt c⟩ (k0_dev32_eq c) _) $$ HS; iintro HS
  iapply (site_snd m K c 2 (by decide) 3#32 rfl ⟨k0_dev33 c, k0_dev33_lt c⟩ (k0_dev33_eq c) _) $$ HS; iintro HS
  iapply (site_snd m K c 3 (by decide) 4#32 rfl ⟨k0_dev34 c, k0_dev34_lt c⟩ (k0_dev34_eq c) _) $$ HS; iintro HS
  rw [k0_part18_eq_skeleton]; unfold k0_part18_skel
  simp only [semSignalWord, semWaitWord, Prog.lift, Prog.bind_op, Prog.bind_ret, Prog.pure_eq_ret, wp_deviceId]
  iapply (site_snd m K c 4 (by decide) 5#32 rfl ⟨k0_dev35 c, k0_dev35_lt c⟩ (k0_dev35_eq c) _) $$ HS; iintro HS
  iapply (site_snd m K c 5 (by decide) 6#32 rfl ⟨k0_dev36 c, k0_dev36_lt c⟩ (k0_dev36_eq c) _) $$ HS; iintro HS
  iapply (site_snd m K c 6 (by decide) 7#32 rfl ⟨k0_dev37 c, k0_dev37_lt c⟩ (k0_dev37_eq c) _) $$ HS; iintro HS
  rw [k0_part19_eq_skeleton]; unfold k0_part19_skel
  simp only [semSignalWord, semWaitWord, Prog.lift, Prog.bind_op, Prog.bind_ret, Prog.pure_eq_ret, wp_deviceId]
  iapply (site_snd m K c 7 (by decide) 8#32 rfl ⟨k0_dev38 c, k0_dev38_lt c⟩ (k0_dev38_eq c) _) $$ HS; iintro HS
  iapply (site_snd m K c 8 (by decide) 9#32 rfl ⟨k0_dev39 c, k0_dev39_lt c⟩ (k0_dev39_eq c) _) $$ HS; iintro HS
  iapply (site_snd m K c 9 (by decide) 10#32 rfl ⟨k0_dev40 c, k0_dev40_lt c⟩ (k0_dev40_eq c) _) $$ HS; iintro HS
  rw [k0_part20_eq_skeleton]; unfold k0_part20_skel
  simp only [semSignalWord, semWaitWord, Prog.lift, Prog.bind_op, Prog.bind_ret, Prog.pure_eq_ret, wp_deviceId]
  iapply (site_snd m K c 10 (by decide) 11#32 rfl ⟨k0_dev41 c, k0_dev41_lt c⟩ (k0_dev41_eq c) _) $$ HS; iintro HS
  iapply (site_snd m K c 11 (by decide) 12#32 rfl ⟨k0_dev42 c, k0_dev42_lt c⟩ (k0_dev42_eq c) _) $$ HS; iintro HS
  iapply (site_snd m K c 12 (by decide) 13#32 rfl ⟨k0_dev43 c, k0_dev43_lt c⟩ (k0_dev43_eq c) _) $$ HS; iintro HS
  rw [k0_part21_eq_skeleton]; unfold k0_part21_skel
  simp only [semSignalWord, semWaitWord, Prog.lift, Prog.bind_op, Prog.bind_ret, Prog.pure_eq_ret, wp_deviceId]
  iapply (site_snd m K c 13 (by decide) 14#32 rfl ⟨k0_dev44 c, k0_dev44_lt c⟩ (k0_dev44_eq c) _) $$ HS; iintro HS
  iapply (site_snd m K c 14 (by decide) 15#32 rfl ⟨k0_dev45 c, k0_dev45_lt c⟩ (k0_dev45_eq c) _) $$ HS; iintro HS
  ihave H := (leave_snd m K c) $$ HS
  icases H with ⟨HO, HcS⟩
  -- the first sends are done
  imod (enter_wait m K c 0 0) $$ [HO HcF Ha0] with H
  · isplitr; · iexact HK
    isplitr; · iexact Hlev
    isplitl [HO]; · iexact HO
    isplitl [HcF] <;> iassumption
  icases H with ⟨HS, Hz⟩
  iapply (site_wait m K c 0 (by decide) 1#32 rfl _ 0 cc0_scratch5 rfl _ _ _ _) $$ HS; iintro HS
  rw [k0_part22_eq_skeleton]; unfold k0_part22_skel
  simp only [semSignalWord, semWaitWord, Prog.lift, Prog.bind_op, Prog.bind_ret, Prog.pure_eq_ret, wp_deviceId]
  iapply (site_wait m K c 1 (by decide) 2#32 rfl _ 0 cc0_scratch5 rfl _ _ _ _) $$ HS; iintro HS
  iapply (site_wait m K c 2 (by decide) 3#32 rfl _ 0 cc0_scratch5 rfl _ _ _ _) $$ HS; iintro HS
  iapply (site_wait m K c 3 (by decide) 4#32 rfl _ 0 cc0_scratch5 rfl _ _ _ _) $$ HS; iintro HS
  iapply (site_wait m K c 4 (by decide) 5#32 rfl _ 0 cc0_scratch5 rfl _ _ _ _) $$ HS; iintro HS
  iapply (site_wait m K c 5 (by decide) 6#32 rfl _ 0 cc0_scratch5 rfl _ _ _ _) $$ HS; iintro HS
  rw [k0_part23_eq_skeleton]; unfold k0_part23_skel
  simp only [semSignalWord, semWaitWord, Prog.lift, Prog.bind_op, Prog.bind_ret, Prog.pure_eq_ret, wp_deviceId]
  iapply (site_wait m K c 6 (by decide) 7#32 rfl _ 0 cc0_scratch5 rfl _ _ _ _) $$ HS; iintro HS
  iapply (site_wait m K c 7 (by decide) 8#32 rfl _ 0 cc0_scratch5 rfl _ _ _ _) $$ HS; iintro HS
  iapply (site_wait m K c 8 (by decide) 9#32 rfl _ 0 cc0_scratch5 rfl _ _ _ _) $$ HS; iintro HS
  iapply (site_wait m K c 9 (by decide) 10#32 rfl _ 0 cc0_scratch5 rfl _ _ _ _) $$ HS; iintro HS
  iapply (site_wait m K c 10 (by decide) 11#32 rfl _ 0 cc0_scratch5 rfl _ _ _ _) $$ HS; iintro HS
  rw [k0_part24_eq_skeleton]; unfold k0_part24_skel
  simp only [semSignalWord, semWaitWord, Prog.lift, Prog.bind_op, Prog.bind_ret, Prog.pure_eq_ret, wp_deviceId]
  iapply (site_wait m K c 11 (by decide) 12#32 rfl _ 0 cc0_scratch5 rfl _ _ _ _) $$ HS; iintro HS
  iapply (site_wait m K c 12 (by decide) 13#32 rfl _ 0 cc0_scratch5 rfl _ _ _ _) $$ HS; iintro HS
  iapply (site_wait m K c 13 (by decide) 14#32 rfl _ 0 cc0_scratch5 rfl _ _ _ _) $$ HS; iintro HS
  iapply (site_wait m K c 14 (by decide) 15#32 rfl _ 0 cc0_scratch5 rfl _ _ _ _) $$ HS; iintro HS
  ihave H := (leave_wait m K c 0 0) $$ [HS Hz]
  · isplitl [HS] <;> iassumption
  icases H with ⟨HO, Hp0, Hz0⟩
  -- the sums of the others come in
  imod (enter_wait m K c 3 0) $$ [HO HcE Ha3] with H
  · isplitr; · iexact HK
    isplitr; · iexact Hlev
    isplitl [HO]; · iexact HO
    isplitl [HcE] <;> iassumption
  icases H with ⟨HS, Hz⟩
  iapply (site_wait m K c 0 (by decide) 1#32 rfl _ 3 cc0_scratch8 rfl _ _ _ _) $$ HS; iintro HS
  rw [k0_part25_eq_skeleton]; unfold k0_part25_skel
  simp only [semSignalWord, semWaitWord, Prog.lift, Prog.bind_op, Prog.bind_ret, Prog.pure_eq_ret, wp_deviceId]
  iapply (site_wait m K c 1 (by decide) 2#32 rfl _ 3 cc0_scratch8 rfl _ _ _ _) $$ HS; iintro HS
  iapply (site_wait m K c 2 (by decide) 3#32 rfl _ 3 cc0_scratch8 rfl _ _ _ _) $$ HS; iintro HS
  iapply (site_wait m K c 3 (by decide) 4#32 rfl _ 3 cc0_scratch8 rfl _ _ _ _) $$ HS; iintro HS
  rw [k0_part26_eq_skeleton]; unfold k0_part26_skel
  simp only [semSignalWord, semWaitWord, Prog.lift, Prog.bind_op, Prog.bind_ret, Prog.pure_eq_ret, wp_deviceId]
  iapply (site_wait m K c 4 (by decide) 5#32 rfl _ 3 cc0_scratch8 rfl _ _ _ _) $$ HS; iintro HS
  iapply (site_wait m K c 5 (by decide) 6#32 rfl _ 3 cc0_scratch8 rfl _ _ _ _) $$ HS; iintro HS
  iapply (site_wait m K c 6 (by decide) 7#32 rfl _ 3 cc0_scratch8 rfl _ _ _ _) $$ HS; iintro HS
  rw [k0_part27_eq_skeleton]; unfold k0_part27_skel
  simp only [semSignalWord, semWaitWord, Prog.lift, Prog.bind_op, Prog.bind_ret, Prog.pure_eq_ret, wp_deviceId]
  iapply (site_wait m K c 7 (by decide) 8#32 rfl _ 3 cc0_scratch8 rfl _ _ _ _) $$ HS; iintro HS
  iapply (site_wait m K c 8 (by decide) 9#32 rfl _ 3 cc0_scratch8 rfl _ _ _ _) $$ HS; iintro HS
  iapply (site_wait m K c 9 (by decide) 10#32 rfl _ 3 cc0_scratch8 rfl _ _ _ _) $$ HS; iintro HS
  rw [k0_part28_eq_skeleton]; unfold k0_part28_skel
  simp only [semSignalWord, semWaitWord, Prog.lift, Prog.bind_op, Prog.bind_ret, Prog.pure_eq_ret, wp_deviceId]
  iapply (site_wait m K c 10 (by decide) 11#32 rfl _ 3 cc0_scratch8 rfl _ _ _ _) $$ HS; iintro HS
  iapply (site_wait m K c 11 (by decide) 12#32 rfl _ 3 cc0_scratch8 rfl _ _ _ _) $$ HS; iintro HS
  iapply (site_wait m K c 12 (by decide) 13#32 rfl _ 3 cc0_scratch8 rfl _ _ _ _) $$ HS; iintro HS
  rw [k0_part29_eq_skeleton]; unfold k0_part29_skel
  simp only [semSignalWord, semWaitWord, Prog.lift, Prog.bind_op, Prog.bind_ret, Prog.pure_eq_ret, wp_deviceId]
  iapply (site_wait m K c 13 (by decide) 14#32 rfl _ 3 cc0_scratch8 rfl _ _ _ _) $$ HS; iintro HS
  iapply (site_wait m K c 14 (by decide) 15#32 rfl _ 3 cc0_scratch8 rfl _ _ _ _) $$ HS; iintro HS
  ihave H := (leave_wait m K c 3 0) $$ [HS Hz]
  · isplitl [HS] <;> iassumption
  icases H with ⟨HO, Hp3, Hz3⟩
  -- the second sends are done
  imod (enter_wait m K c 2 0) $$ [HO HcS Ha2] with H
  · isplitr; · iexact HK
    isplitr; · iexact Hlev
    isplitl [HO]; · iexact HO
    isplitl [HcS] <;> iassumption
  icases H with ⟨HS, Hz⟩
  iapply (site_wait m K c 0 (by decide) 1#32 rfl _ 2 cc0_scratch7 rfl _ _ _ _) $$ HS; iintro HS
  iapply (site_wait m K c 1 (by decide) 2#32 rfl _ 2 cc0_scratch7 rfl _ _ _ _) $$ HS; iintro HS
  iapply (site_wait m K c 2 (by decide) 3#32 rfl _ 2 cc0_scratch7 rfl _ _ _ _) $$ HS; iintro HS
  rw [k0_part30_eq_skeleton]; unfold k0_part30_skel
  simp only [semSignalWord, semWaitWord, Prog.lift, Prog.bind_op, Prog.bind_ret, Prog.pure_eq_ret, wp_deviceId]
  iapply (site_wait m K c 3 (by decide) 4#32 rfl _ 2 cc0_scratch7 rfl _ _ _ _) $$ HS; iintro HS
  iapply (site_wait m K c 4 (by decide) 5#32 rfl _ 2 cc0_scratch7 rfl _ _ _ _) $$ HS; iintro HS
  iapply (site_wait m K c 5 (by decide) 6#32 rfl _ 2 cc0_scratch7 rfl _ _ _ _) $$ HS; iintro HS
  iapply (site_wait m K c 6 (by decide) 7#32 rfl _ 2 cc0_scratch7 rfl _ _ _ _) $$ HS; iintro HS
  iapply (site_wait m K c 7 (by decide) 8#32 rfl _ 2 cc0_scratch7 rfl _ _ _ _) $$ HS; iintro HS
  rw [k0_part31_eq_skeleton]; unfold k0_part31_skel
  simp only [semSignalWord, semWaitWord, Prog.lift, Prog.bind_op, Prog.bind_ret, Prog.pure_eq_ret, wp_deviceId]
  iapply (site_wait m K c 8 (by decide) 9#32 rfl _ 2 cc0_scratch7 rfl _ _ _ _) $$ HS; iintro HS
  iapply (site_wait m K c 9 (by decide) 10#32 rfl _ 2 cc0_scratch7 rfl _ _ _ _) $$ HS; iintro HS
  iapply (site_wait m K c 10 (by decide) 11#32 rfl _ 2 cc0_scratch7 rfl _ _ _ _) $$ HS; iintro HS
  iapply (site_wait m K c 11 (by decide) 12#32 rfl _ 2 cc0_scratch7 rfl _ _ _ _) $$ HS; iintro HS
  iapply (site_wait m K c 12 (by decide) 13#32 rfl _ 2 cc0_scratch7 rfl _ _ _ _) $$ HS; iintro HS
  iapply (site_wait m K c 13 (by decide) 14#32 rfl _ 2 cc0_scratch7 rfl _ _ _ _) $$ HS; iintro HS
  iapply (site_wait m K c 14 (by decide) 15#32 rfl _ 2 cc0_scratch7 rfl _ _ _ _) $$ HS; iintro HS
  ihave H := (leave_wait m K c 2 0) $$ [HS Hz]
  · isplitl [HS] <;> iassumption
  icases H with ⟨HO, Hp2, Hz2⟩
  -- the buffers are whole again
  ihave Hf2 := (gather_send m c (partialAt m c)) $$ [Hsown Hp0]
  · isplitl [Hsown] <;> iassumption
  ihave Hr := (gather_res m c) $$ [Hshares Hp2 Hp3]
  · isplitl [Hshares]; · iexact Hshares
    isplitl [Hp2] <;> iassumption
  rw [wp_ret]; imodintro
  iapply HQ
  unfold RunPost
  isplitl [HO]; · iexact HO
  isplitl [HzB HzK HzV Hz0 Hz1 Hz2 Hz3]
  · isplitl [HzB]; · iexact HzB
    isplitl [HzK]; · iexact HzK
    isplitl [HzV]; · iexact HzV
    isplitl [Hz0]; · iexact Hz0
    isplitl [Hz1]; · iexact Hz1
    isplitl [Hz2] <;> iassumption
  isplitl [Hk]; · iexact Hk
  isplitl [Hv]; · iexact Hv
  isplitl [Hf0 Hf1 Hf2 Hf3]
  · isplitl [Hf0]; · iexists _; iexact Hf0
    isplitl [Hf1]; · iexists _; iexact Hf1
    isplitl [Hf2]; · iexact Hf2
    iexists _; iexact Hf3
  isplitl [Hx]; · iexact Hx
  isplitl [Hq]; · iexact Hq
  isplitl [Ho] <;> iassumption

end Cert.Exchange

end
-- ==== Proof.Ghost.lean ====
/-
# The ghost state at the launch

A device's cells listed kind by kind, the duty tokens minted under the name of the device that PAYS them, and the credit the
launch gives for what the others owe.
-/
module

public import proofs.«01_k».proof.Proof.Phases

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A family over a device's cells -/

/-- A family over an optional index. -/
theorem over_option {I : Type} [Fintype I] [DecidableEq I] (Φ : Option I → sProp 𝕄) :
    bigSep Finset.univ Φ = iprop(Φ none ∗ bigSep Finset.univ fun i => Φ (some i)) := by
  have h : (Finset.univ : Finset (Option I)).erase none = Finset.univ.map ⟨some, Option.some_injective I⟩ := by
    ext x
    rcases x with _ | x <;> simp
  rw [bigSep_univ_at Φ none, h, bigSep_map]; rfl

theorem over_two (Φ : Fin 2 → sProp 𝕄) : bigSep Finset.univ Φ = iprop(Φ 0 ∗ Φ 1) := bigSep_univ_eq_bigSepL [0, 1] (by decide) (by decide) Φ
theorem over_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem over_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A family over the kernel's own semaphores: the two copies', and four kinds of sixteen. -/
theorem over_own (Φ : Own → sProp 𝕄) :
    bigSep Finset.univ Φ = iprop((Φ (.inl 0) ∗ Φ (.inl 1))
      ∗ (bigSep Finset.univ fun s => Φ (.inr (0, s))) ∗ (bigSep Finset.univ fun s => Φ (.inr (1, s)))
      ∗ (bigSep Finset.univ fun s => Φ (.inr (2, s))) ∗ (bigSep Finset.univ fun s => Φ (.inr (3, s)))) := by
  have h := BI.bigSep_univ_sum Φ
  rw [over_two, bigSep_univ_prod, over_four] at h
  exact h

/-! ## The cells and the tokens -/

theorem cellX_injective : Function.Injective fun x : Dev nD × Option Own => cell x.1 x.2 := fun x y h =>
  Prod.ext (cell_eq_iff.mp h).1 (cell_eq_iff.mp h).2
def allCells : Finset (GSem nD τ sig) := Finset.univ.map ⟨fun x : Dev nD × Option Own => cell x.1 x.2, cellX_injective⟩

/-- The payments of one device: the barrier's, the two ends of each transfer of the two exchanges, the two copies. -/
abbrev Pay : Type := (Fin 5 × Fin 15) ⊕ Fin 2

/-- Where a payment of device `c` goes: the device, the cell, the duty. -/
def payAt (c : Dev nD) : Pay → Dev nD × Option Own × Fin 16
  | .inl (⟨0, _⟩, j) => (tgt c j, none, c)
  | .inl (⟨1, _⟩, j) => (c, some (.inr (0, tgt c j)), 0)
  | .inl (⟨2, _⟩, j) => (tgt c j, some (.inr (1, c)), 0)
  | .inl (⟨3, _⟩, j) => (c, some (.inr (2, tgt c j)), 0)
  | .inl (⟨_ + 4, _⟩, j) => (tgt c j, some (.inr (3, c)), 0)
  | .inr i => (c, some (.inl i), 0)

/-- Who pays, read off the place of a payment. -/
theorem payAt_injective {c c' : Dev nD} {p p' : Pay} (h : payAt c p = payAt c' p') : c = c' ∧ p = p' := by
  obtain ⟨h1, h2⟩ := Prod.mk.inj h
  obtain ⟨h2, h3⟩ := Prod.mk.inj h2
  clear h
  rcases p with ⟨⟨_ | _ | _ | _ | k, hk⟩, j⟩ | i <;> rcases p' with ⟨⟨_ | _ | _ | _ | k', hk'⟩, j'⟩ | i' <;>
    dsimp only [payAt] at h1 h2 h3 <;> try (simp at h2; done)
  · subst h3; exact ⟨rfl, by rw [tgt_injective c h1]⟩
  · subst h1
    have h4 : tgt c j = tgt c j' := by simpa using h2
    exact ⟨rfl, by rw [tgt_injective c h4]⟩
  · have h4 : c = c' := by simpa using h2
    subst h4; exact ⟨rfl, by rw [tgt_injective c h1]⟩
  · subst h1
    have h4 : tgt c j = tgt c j' := by simpa using h2
    exact ⟨rfl, by rw [tgt_injective c h4]⟩
  · have h4 : c = c' := by simpa using h2
    have h5 : k = k' := by omega
    subst h4 h5; exact ⟨rfl, by rw [tgt_injective c h1]⟩
  · subst h1
    have h4 : i = i' := by simpa using h2
    exact ⟨rfl, by rw [h4]⟩

abbrev tokOf (x : Dev nD × Pay) : GSem nD τ sig × ℕ × Fin 16 := (cell (payAt x.1 x.2).1 (payAt x.1 x.2).2.1, 0, (payAt x.1 x.2).2.2)
theorem tokOf_injective : Function.Injective tokOf := fun x y h => by
  obtain ⟨h1, h2⟩ := Prod.mk.inj h
  have h3 := cell_eq_iff.mp h1
  have h4 := payAt_injective (c := x.1) (p := x.2) (c' := y.1) (p' := y.2) (Prod.ext h3.1 (Prod.ext h3.2 (Prod.mk.inj h2).2))
  exact Prod.ext h4.1 h4.2
def allToks : Finset (GSem nD τ sig × ℕ × Fin 16) := Finset.univ.map ⟨tokOf, tokOf_injective⟩

/-- What device `c` pays with. -/
def toks (c : Dev nD) : sProp 𝕄 :=
  iprop(barToks c ∗ sendToks c 0 1 ∗ sendToks c 2 3 ∗ dutyTok ER (cell c (some (.inl 0))) 0 0 ∗ dutyTok ER (cell c (some (.inl 1))) 0 0)

theorem toks_of (c : Dev nD) : (bigSep Finset.univ fun p : Pay => (dutyTok ER (tokOf (c, p)).1 (tokOf (c, p)).2.1 (tokOf (c, p)).2.2 : sProp 𝕄)) ⊢ toks c := by
  rw [BI.bigSep_univ_sum (fun p : Pay => (dutyTok ER (tokOf (c, p)).1 (tokOf (c, p)).2.1 (tokOf (c, p)).2.2 : sProp 𝕄)), bigSep_univ_prod, over_five, over_two]
  unfold toks barToks sendToks
  rw [bigSep_sep', bigSep_sep']
  refine (show iprop((_ ∗ _ ∗ _ ∗ _ ∗ _) ∗ (_ ∗ _)) ⊢ _ from ?_)
  iintro ⟨⟨H0, H1, H2, H3, H4⟩, H5, H6⟩
  isplitl [H0]; · iexact H0
  isplitl [H1 H2]
  · isplitl [H1]; · iexact H1
    iexact H2
  isplitl [H3 H4]
  · isplitl [H3]; · iexact H3
    iexact H4
  isplitl [H5]; · iexact H5
  iexact H6

/-- A device's positions in its rounds. -/
def places (c : Dev nD) : sProp 𝕄 :=
  iprop(atPos ER (cell c none) 0 ∅ 0 ∗ (atPos ER (cell c (some (.inl 0))) 0 ∅ 0 ∗ atPos ER (cell c (some (.inl 1))) 0 ∅ 0)
    ∗ posOf c 0 ∗ posOf c 1 ∗ posOf c 2 ∗ posOf c 3)

theorem places_eq (c : Dev nD) : (bigSep Finset.univ fun o : Option Own => (atPos ER (cell c o) 0 ∅ 0 : sProp 𝕄)) = places c := by
  rw [over_option, over_own]; rfl

/-! ## The launch credit -/

theorem owedFrom_zero (t : Fin 15 → CellTallies nD τ sig Unit) (g : GSem nD τ sig) : owedFrom t 0 g () = ∑ j, t j g () := by
  unfold owedFrom
  rw [Finset.sum_apply, Finsupp.finset_sum_apply]
  exact Finset.sum_congr rfl fun j _ => by rw [if_neg (Nat.not_lt_zero _)]

/-- A sum over the fifteen other devices. -/
theorem sum_tgt (d : Dev nD) (f : Dev nD → ℕ) : (∑ j, f (tgt d j)) = ∑ x ∈ Finset.univ.erase d, f x := by
  rw [erase_eq_map, Finset.sum_map]; rfl

theorem owed_bar (d c : Dev nD) : O₀ d (cell c none) () = if d = c then 0 else 1 := by
  have h1 (j : Fin 15) : owSnd d j (cell c none) () = 0 := by
    unfold owSnd; rw [tallyAt_apply, if_neg]; rintro ⟨h, -⟩; exact absurd (cell_eq_iff.mp h).2 (by simp)
  have h2 (j : Fin 15) : owFst d j (cell c none) () = 0 := by
    unfold owFst; rw [tallyAt_apply, if_neg]; rintro ⟨h, -⟩; exact absurd (cell_eq_iff.mp h).2 (by simp)
  have h3 (j : Fin 15) : owBar d j (cell c none) () = if tgt d j = c then 1 else 0 := by
    unfold owBar; rw [tallyAt_apply]
    by_cases h : tgt d j = c
    · rw [if_pos h, if_pos ⟨cell_eq_iff.mpr ⟨h.symm, rfl⟩, rfl⟩]
    · rw [if_neg h, if_neg fun h' => h (cell_eq_iff.mp h'.1).1.symm]
  unfold O₀
  rw [Pi.add_apply, Finsupp.add_apply, Pi.add_apply, Finsupp.add_apply, owedFrom_zero, owedFrom_zero, owedFrom_zero, Finset.sum_congr rfl fun j _ => h1 j,
    Finset.sum_congr rfl fun j _ => h2 j, Finset.sum_congr rfl fun j _ => h3 j, sum_tgt d fun x => if x = c then 1 else 0, Finset.sum_ite_eq']
  by_cases h : d = c
  · subst h; simp
  · rw [if_neg h, if_pos (Finset.mem_erase.mpr ⟨fun h' => h h'.symm, Finset.mem_univ _⟩)]; simp

theorem owed_fst (d c : Dev nD) (s : Fin 16) : O₀ d (cell c (some (.inr (1, s)))) () = if d = s then (if d = c then 0 else NT) else 0 := by
  have h1 (j : Fin 15) : owSnd d j (cell c (some (.inr (1, s)))) () = 0 := by
    unfold owSnd; rw [tallyAt_apply, if_neg]; rintro ⟨h, -⟩; exact absurd (cell_eq_iff.mp h).2 (by simp)
  have h2 (j : Fin 15) : owBar d j (cell c (some (.inr (1, s)))) () = 0 := by
    unfold owBar; rw [tallyAt_apply, if_neg]; rintro ⟨h, -⟩; exact absurd (cell_eq_iff.mp h).2 (by simp)
  have h3 (j : Fin 15) : owFst d j (cell c (some (.inr (1, s)))) () = if tgt d j = c then (if d = s then NT else 0) else 0 := by
    unfold owFst; rw [tallyAt_apply]
    by_cases h : tgt d j = c
    · by_cases h' : d = s
      · rw [if_pos h, if_pos h', if_pos ⟨cell_eq_iff.mpr ⟨h.symm, by rw [h']⟩, rfl⟩]
      · rw [if_pos h, if_neg h', if_neg]; rintro ⟨hc, -⟩; exact h' (by simpa using (cell_eq_iff.mp hc).2.symm)
    · rw [if_neg h, if_neg fun h' => h (cell_eq_iff.mp h'.1).1.symm]
  unfold O₀
  rw [Pi.add_apply, Finsupp.add_apply, Pi.add_apply, Finsupp.add_apply, owedFrom_zero, owedFrom_zero, owedFrom_zero, Finset.sum_congr rfl fun j _ => h1 j,
    Finset.sum_congr rfl fun j _ => h2 j, Finset.sum_congr rfl fun j _ => h3 j, sum_tgt d fun x => if x = c then (if d = s then NT else 0) else 0, Finset.sum_ite_eq']
  by_cases h : d = c
  · subst h; simp
  · rw [if_neg h, if_pos (Finset.mem_erase.mpr ⟨fun h' => h h'.symm, Finset.mem_univ _⟩)]; simp

theorem owed_snd (d c : Dev nD) (s : Fin 16) : O₀ d (cell c (some (.inr (3, s)))) () = if d = s then (if d = c then 0 else NT) else 0 := by
  have h1 (j : Fin 15) : owFst d j (cell c (some (.inr (3, s)))) () = 0 := by
    unfold owFst; rw [tallyAt_apply, if_neg]; rintro ⟨h, -⟩; exact absurd (cell_eq_iff.mp h).2 (by simp)
  have h2 (j : Fin 15) : owBar d j (cell c (some (.inr (3, s)))) () = 0 := by
    unfold owBar; rw [tallyAt_apply, if_neg]; rintro ⟨h, -⟩; exact absurd (cell_eq_iff.mp h).2 (by simp)
  have h3 (j : Fin 15) : owSnd d j (cell c (some (.inr (3, s)))) () = if tgt d j = c then (if d = s then NT else 0) else 0 := by
    unfold owSnd; rw [tallyAt_apply]
    by_cases h : tgt d j = c
    · by_cases h' : d = s
      · rw [if_pos h, if_pos h', if_pos ⟨cell_eq_iff.mpr ⟨h.symm, by rw [h']⟩, rfl⟩]
      · rw [if_pos h, if_neg h', if_neg]; rintro ⟨hc, -⟩; exact h' (by simpa using (cell_eq_iff.mp hc).2.symm)
    · rw [if_neg h, if_neg fun h' => h (cell_eq_iff.mp h'.1).1.symm]
  unfold O₀
  rw [Pi.add_apply, Finsupp.add_apply, Pi.add_apply, Finsupp.add_apply, owedFrom_zero, owedFrom_zero, owedFrom_zero, Finset.sum_congr rfl fun j _ => h1 j,
    Finset.sum_congr rfl fun j _ => h2 j, Finset.sum_congr rfl fun j _ => h3 j, sum_tgt d fun x => if x = c then (if d = s then NT else 0) else 0, Finset.sum_ite_eq']
  by_cases h : d = c
  · subst h; simp
  · rw [if_neg h, if_pos (Finset.mem_erase.mpr ⟨fun h' => h h'.symm, Finset.mem_univ _⟩)]; simp

/-- The launch credit of one cell. -/
theorem launch_cell (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) : (∑ d : Dev nD, O₀ d (cell c none) ()) = 15 := by
  rw [Finset.sum_congr rfl fun d _ => owed_bar d c, ← Finset.add_sum_erase _ _ (Finset.mem_univ c), if_pos rfl,
    Finset.sum_congr rfl fun d hd => if_neg (Finset.mem_erase.mp hd).1, Finset.sum_const, Finset.card_erase_of_mem (Finset.mem_univ _), Finset.card_univ]
  rfl
theorem launch_fst (c : Dev nD) (j : Fin 15) : (∑ d : Dev nD, O₀ d (cell c (some (.inr (1, tgt c j)))) ()) = NT := by
  rw [Finset.sum_congr rfl fun d _ => owed_fst d c (tgt c j), Finset.sum_ite_eq', if_pos (Finset.mem_univ _), if_neg (tgt_ne c j)]
theorem launch_snd (c : Dev nD) (j : Fin 15) : (∑ d : Dev nD, O₀ d (cell c (some (.inr (3, tgt c j)))) ()) = NT := by
  rw [Finset.sum_congr rfl fun d _ => owed_snd d c (tgt c j), Finset.sum_ite_eq', if_pos (Finset.mem_univ _), if_neg (tgt_ne c j)]

/-- A family over every semaphore, cut down to a device's cells. -/
theorem cells_elim (Φ : SemLoc sig → sProp 𝕄) : bigSep Finset.univ Φ ⊢ bigSep Finset.univ fun o : Option Own => Φ (semAt o) := by
  have h := bigSep_subset (Φ := Φ) (Finset.subset_univ ((Finset.univ : Finset (Option Own)).map ⟨semAt, semAt_injective⟩))
  rw [bigSep_map] at h
  exact h

/-- The credit a device is launched with: fifteen units on its barrier, a slot's worth on each receive cell in use. -/
theorem creds (c : Dev nD) : (Pipeline.launchCred O₀ c : sProp 𝕄) ⊢ iprop(cred (tallyAt (cell c none) () 15) ∗ credOf c 1 ∗ credOf c 3) := by
  unfold Pipeline.launchCred
  refine (cells_elim _).trans ?_
  rw [over_option, over_own, launch_cell _ _ (launch_bar c)]
  have h1 : (bigSep Finset.univ fun s : Fin 16 => (cred (tallyOn ((c : Thread nD τ), semAt (some (.inr (1, s)))) (launchCredit (Pipeline.owing O₀) 0 ((c : Thread nD τ), semAt (some (.inr (1, s)))))) : sProp 𝕄))
      ⊢ credOf c 1 := by
    rw [bigSep_others c]
    unfold credOf sentCred
    iintro ⟨-, H⟩
    rw [bigSep_congr fun j _ => by rw [launch_cell _ _ (launch_fst c j)]]
    exact BI.Entails.refl _
  have h3 : (bigSep Finset.univ fun s : Fin 16 => (cred (tallyOn ((c : Thread nD τ), semAt (some (.inr (3, s)))) (launchCredit (Pipeline.owing O₀) 0 ((c : Thread nD τ), semAt (some (.inr (3, s)))))) : sProp 𝕄))
      ⊢ credOf c 3 := by
    rw [bigSep_others c]
    unfold credOf sentCred
    iintro ⟨-, H⟩
    rw [bigSep_congr fun j _ => by rw [launch_cell _ _ (launch_snd c j)]]
    exact BI.Entails.refl _
  iintro ⟨H, -, -, H1, -, H3⟩
  isplitl [H]; · iexact H
  isplitl [H1]; · iapply h1; iexact H1
  iapply h3; iexact H3

end Cert.Exchange

end
-- ==== Proof.Launch.lean ====
/-
# The launch and the run

The body's run is fitted into the launch: the ghost state is dealt out, every cell's invariant is set up, and the run of
@main on all sixteen devices ends with every device's result holding `resAt`, the arguments as they were, every counter at
zero.
-/
module

public import proofs.«01_k».proof.Proof.Body
public import proofs.«01_k».proof.Proof.Ghost
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.CollectiveSegs
public import Idealize.ShloMosaic.Lib.Quiescent

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Around the point -/

/-- The key and value weights, whole, as the launch left them. -/
def weights (c : Dev nD) : sProp 𝕄 :=
  iprop((((c : Thread nD τ).loc main_arg2) ↦{fullShare} m ((c : Thread nD τ).loc main_arg2))
    ∗ (((c : Thread nD τ).loc main_arg3) ↦{fullShare} m ((c : Thread nD τ).loc main_arg3)))

/-- The four scratch buffers at whatever they hold. -/
def scratch (c : Dev nD) : sProp 𝕄 :=
  iprop((∃ f, ((c : Thread nD τ).loc cc0_scratch0) ↦{fullShare} f) ∗ (∃ f, ((c : Thread nD τ).loc cc0_scratch1) ↦{fullShare} f)
      ∗ (∃ f, ((c : Thread nD τ).loc cc0_scratch2) ↦{fullShare} f) ∗ (∃ f, ((c : Thread nD τ).loc cc0_scratch3) ↦{fullShare} f))

/-- What the global set-up leaves device `c`. -/
def dealt (c : Dev nD) : sProp 𝕄 := iprop(∃ K, known m K ∗ places c ∗ toks c)

def start (c : Dev nD) : sProp 𝕄 :=
  iprop(dealt m c ∗ (cred (tallyAt (cell c none) () 15) ∗ credOf c 1 ∗ credOf c 3) ∗ levAts L lv ∗ weights m c)

def Φ₀ (c : Dev nD) : sProp 𝕄 := iprop(start m c ∗ scratch c)

/-- The device's own counters at zero. -/
def zeros (c : Dev nD) : sProp 𝕄 :=
  iprop((semVal (cell c (some (.inl 0))) 0 ∗ semVal (cell c (some (.inl 1))) 0) ∗ zeroOf c 0 ∗ zeroOf c 1 ∗ zeroOf c 2 ∗ zeroOf c 3)

def Φ₁ (c : Dev nD) : sProp 𝕄 := iprop(semVal (cell c none) 0 ∗ zeros c ∗ weights m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => wqAt m c
    | ⟨2, _⟩ => woAt m c
    | ⟨3, _⟩ => resAt m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_x (t : Fin cfg0.N) : (cfg0.win (0 : Fin 4)).fetch t = true := by rw [fin_N0 t]; rfl
theorem fetch_q (t : Fin cfg0.N) : (cfg0.win (1 : Fin 4)).fetch t = true := by rw [fin_N0 t]; rfl
theorem fetch_o (t : Fin cfg0.N) : (cfg0.win (2 : Fin 4)).fetch t = true := by rw [fin_N0 t]; rfl

/-! ## The columns out of the weights, and back -/

theorem cols_split (M : Memref sig .tc .hbm S1024x4096 .f32) (c : Dev nD) :
    ((M.view.loc (c : Thread nD τ)) ↦{fullShare} m (M.view.loc (c : Thread nD τ)) : sProp 𝕄)
      ⊣⊢ iprop(colsP m M c ∗ (M.view.loc (c : Thread nD τ)) ↦[Finset.univ \ (colsM M c).view.set]{fullShare} m (M.view.loc (c : Thread nD τ))) := by
  unfold colsP; exact pointsTo_split_subset (Finset.subset_univ _)

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ
    ∗ stg c cc0_stg0_0 (xAt m c) ∗ stg c cc0_stg1_0 (wqAt m c) ∗ stg c cc0_stg2_0 (woAt m c) ∗ stg c cc0_stg3_0 (resAt m))

set_option maxHeartbeats 800000 in
/-- The body from what the pipeline gives it to what the pipeline takes back. -/
theorem sound_body (c : Dev nD) :
    bodyPre m ρ c
      ⊢ wp frame (wpE (defs₀ (F := F)) 𝒱₀ (c : Thread nD τ) none) Set.univ
          (cc0_body xM (Memref.isWhole_whole _) qM (Memref.isWhole_whole _) oM (Memref.isWhole_whole _) kHbm (Memref.isWhole_whole _) vHbm (Memref.isWhole_whole _)
            resM (Memref.isWhole_whole _) kM (Memref.isWhole_whole _) vM (Memref.isWhole_whole _) sendM (Memref.isWhole_whole _) recvM (Memref.isWhole_whole _)
            cc0_scratch4 cc0_scratch5 cc0_scratch6 cc0_scratch7 cc0_scratch8) (fun _ => bodyPost m ρ c) := by
  unfold bodyPre Φ₀ start dealt weights scratch places toks
  iintro ⟨⟨⟨⟨%K, #HK, ⟨HaB, ⟨HaK, HaV⟩, Ha0, Ha1, Ha2, Ha3⟩, HtB, HtF, HtS, HtK, HtV⟩, ⟨HcB, HcR, HcE⟩, #Hlev, Hwk, Hwv⟩, ⟨%f0, Hf0⟩, ⟨%f1, Hf1⟩, ⟨%f2, Hf2⟩, ⟨%f3, Hf3⟩⟩,
    Ho, ⟨%d0, %g0, %hg0, Hx⟩, ⟨%d1, %g1, %hg1, Hq⟩, ⟨%d2, %g2, %hg2, Hout⟩, ⟨%d3, %g3, %hg3, Hr⟩⟩
  have hx : g0 = xAt m c := by rw [hg0]; unfold Dat.before; rw [if_pos (fetch_x t0_0)]; rfl
  have hq : g1 = wqAt m c := by rw [hg1]; unfold Dat.before; rw [if_pos (fetch_q t0_0)]; rfl
  have ho : g2 = woAt m c := by rw [hg2]; unfold Dat.before; rw [if_pos (fetch_o t0_0)]; rfl
  subst hx hq ho
  unfold Dat.owesAt Pipeline.owesWithin
  icases Ho with ⟨%W, %hW, HO⟩
  rw [show (dats m ρ 0 c).owed t0_0.castSucc = O₀ c from rfl]
  ihave Hwk := (cols_split m kHbm c).1 $$ Hwk
  ihave Hwv := (cols_split m vHbm c).1 $$ Hwv
  icases Hwk with ⟨Hk, Hk'⟩
  icases Hwv with ⟨Hv, Hv'⟩
  iapply (run_body m K c f0 f1 f2 f3 g3 fun _ => bodyPost m ρ c) $$ [HaB HaK HaV Ha0 Ha1 Ha2 Ha3 HtB HtF HtS HtK HtV HcB HcR HcE HO Hk Hv Hf0 Hf1 Hf2 Hf3 Hx Hq Hout Hr]
  · unfold RunPre RunBufs
    isplitr [Hk Hv Hf0 Hf1 Hf2 Hf3 Hx Hq Hout Hr]
    · isplitr; · iexact HK
      isplitr; · iexact Hlev
      isplitl [HO]; · unfold owesX; iexists W; iexact HO
      isplitl [HtB]; · iexact HtB
      isplitl [HtF]; · iexact HtF
      isplitl [HtS]; · iexact HtS
      isplitl [HtK]; · iexact HtK
      isplitl [HtV]; · iexact HtV
      isplitl [HaB]; · iexact HaB
      isplitl [HaK]; · iexact HaK
      isplitl [HaV]; · iexact HaV
      isplitl [Ha0]; · iexact Ha0
      isplitl [Ha1]; · iexact Ha1
      isplitl [Ha2]; · iexact Ha2
      isplitl [Ha3]; · iexact Ha3
      isplitl [HcB]; · iexact HcB
      isplitl [HcR]; · iexact HcR
      iexact HcE
    · isplitl [Hk]; · iexact Hk
      isplitl [Hv]; · iexact Hv
      isplitl [Hf0]; · iexact Hf0
      isplitl [Hf1]; · iexact Hf1
      isplitl [Hf2]; · iexact Hf2
      isplitl [Hf3]; · iexact Hf3
      isplitl [Hx]; · iexact Hx
      isplitl [Hq]; · iexact Hq
      isplitl [Hout]; · iexact Hout
      iexact Hr
  unfold RunPost
  iintro ⟨HO, ⟨HzB, HzK, HzV, Hz⟩, Hk, Hv, Hs, Hx, Hq, Hout, Hr⟩
  unfold bodyPost Φ₁ zeros weights scratch Dat.owesAt Pipeline.owesWithin owesX
  rw [show (dats m ρ 0 c).owed t0_0.succ = 0 from rfl]
  icases HO with ⟨%W', HO⟩
  isplitl [HzB HzK HzV Hz Hk Hk' Hv Hv' Hs]
  · isplitl [HzB]; · iexact HzB
    isplitl [HzK HzV Hz]
    · isplitl [HzK HzV]
      · isplitl [HzK]; · iexact HzK
        iexact HzV
      iexact Hz
    isplitl [Hk Hk' Hv Hv']
    · isplitl [Hk Hk']
      · iapply (cols_split m kHbm c).2
        isplitl [Hk]; · iexact Hk
        iexact Hk'
      · iapply (cols_split m vHbm c).2
        isplitl [Hv]; · iexact Hv
        iexact Hv'
    iexact Hs
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hout]
  · iexists _; isplitr; · (ipureintro; rfl)
    iexact Hout
  iexists _; isplitr; · (ipureintro; rfl)
  iexact Hr

/-- The pipeline's demand on the body of device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

/-! ## The set-up -/

abbrev ownSem (o : Own) : SemLoc sig := .dma (semOf o)

/-- The staging buffers' semaphores are the pool's first four. -/
theorem stage_sem (w : Fin cfg0.W) (s : Fin (cfg0.spec w).nbuf) : ((cfg0.spec w).sem s).val < 4 := by
  fin_cases w <;> fin_cases s <;> decide

theorem ownSemFacts : Pipeline.OwnSemFacts cfg0.spec ownSem where
  isScoped o := (show ∀ q : DmaSem sig, (SemLoc.dma q : SemLoc sig).isScoped .tc = true by decide) (semOf o)
  inj a b h := semOf_injective (SemLoc.dma.inj h)
  disj o w s h := by
    have h1 := congrArg Fin.val (SemLoc.dma.inj h)
    have h2 := stage_sem w s
    have h3 := four_le_semOf o
    omega

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

/-- What the launch element deals device `c`. -/
def G (c : Dev nD) : sProp 𝕄 :=
  iprop((bigSep Finset.univ fun o : Option Own => roundState ER (sched m) (cell c o) 0)
    ∗ (bigSep Finset.univ fun o : Option Own => reached ER (cell c o) 0) ∗ places c ∗ toks c)

theorem fund_exchange : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun o : Option Own => Φ (cell c o) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_of c
  have hP : (bigSep Finset.univ fun c : Dev nD => bigSep Finset.univ fun o : Option Own => (atPos ER (cell c o) 0 ∅ 0 : sProp 𝕄)) = bigSep Finset.univ fun c : Dev nD => places c :=
    bigSep_congr fun c _ => places_eq c
  have hG : bigSep Finset.univ (G m) = iprop((bigSep Finset.univ fun c : Dev nD => bigSep Finset.univ fun o : Option Own => roundState ER (sched m) (cell c o) 0)
      ∗ (bigSep Finset.univ fun c : Dev nD => bigSep Finset.univ fun o : Option Own => reached ER (cell c o) 0)
      ∗ (bigSep Finset.univ fun c : Dev nD => places c) ∗ bigSep Finset.univ fun c : Dev nD => (toks c : sProp 𝕄)) := by
    rw [show G m = fun c : Dev nD => G m c from rfl]; unfold G; rw [bigSep_sep', bigSep_sep', bigSep_sep']
  rw [hG]
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq ((hX fun g => atPos ER g 0 ∅ 0).trans hP)) $$ Hat
  ihave Hr := (Entails.of_eq (hX fun g => reached ER g 0)) $$ Hr
  ihave Htok := hT $$ Htok
  isplitl [Hst]; · iexact Hst
  isplitl [Hr]; · iexact Hr
  isplitl [Hat]; · iexact Hat
  iexact Htok

theorem unscoped_eq (c : Dev nD) : (unscopedSems0 c : sProp 𝕄) = semVal (cell c none) 0 := by
  unfold unscopedSems0; rw [bigSep_eq_bigSepL_of_eq [SemLoc.reg barS] (by decide) (by decide)]; rfl

theorem own_eq (c : Dev nD) : (Pipeline.ownSems0 (Ix := Unit) (Name := ℕ) (U := UU) (Lvl := ℕ) (Val := Elt F) (τ := τ) ownSem c : sProp 𝕄) = zeros c := by
  unfold Pipeline.ownSems0; rw [over_own]; rfl

/-- One device's counters at zero and its rounds are its cells' invariants. -/
theorem core_alloc (c : Dev nD) :
    iprop(Pipeline.ownSems0 (Ix := Unit) (Name := ℕ) (U := UU) (Lvl := ℕ) (Val := Elt F) (τ := τ) ownSem c ∗ unscopedSems0 c ∗ G m c)
      ⊢ |={Set.univ}=> iprop((bigSep Finset.univ fun o : Option Own => iprop(∃ κ : ℕ, cellInv ER (sched m) κ (cell c o)))
          ∗ (bigSep Finset.univ fun o : Option Own => reached ER (cell c o) 0) ∗ places c ∗ toks c) := by
  have hv : iprop(Pipeline.ownSems0 (Ix := Unit) (Name := ℕ) (U := UU) (Lvl := ℕ) (Val := Elt F) (τ := τ) ownSem c ∗ unscopedSems0 c)
      ⊢ (bigSep Finset.univ fun o : Option Own => semVal (cell c o) 0 : sProp 𝕄) := by
    rw [over_option, unscoped_eq]
    unfold Pipeline.ownSems0
    iintro ⟨HO, HB⟩
    isplitl [HB]; · iexact HB
    iexact HO
  unfold G
  iintro ⟨Hos, Hus, Hst, Hr, Hat, Htok⟩
  ihave Hv := hv $$ [Hos Hus]
  · isplitl [Hos] <;> iassumption
  imod (show iprop((bigSep Finset.univ fun o : Option Own => semVal (cell c o) 0) ∗ bigSep Finset.univ fun o : Option Own => roundState ER (sched m) (cell c o) 0)
      ⊢ (|={Set.univ}=> bigSep Finset.univ fun o => iprop(∃ κ : ℕ, cellInv ER (sched m) κ (cell c o)) : sProp 𝕄) from by
        rw [← bigSep_sep']
        exact (bigSep_mono fun o _ => (Rounds.body_intro ER (sched m) (cell c o)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- What everybody knows goes to each device with its own part. -/
theorem deal_known (R : sProp 𝕄) [BI.Persistent R] (Φ : Dev nD → sProp 𝕄) : iprop(R ∗ bigSep Finset.univ Φ) ⊢ bigSep Finset.univ fun c => iprop(R ∗ Φ c) :=
  (sep_mono_left (BI.bigSep_of_persistent Finset.univ R)).trans (Entails.of_eq (bigSep_sep' Finset.univ (fun _ => R) Φ).symm)

theorem dealt_intro (K : Dev nD × Option Own → ℕ) (c : Dev nD) : iprop(known m K ∗ (places c ∗ toks c)) ⊢ dealt m c := by
  unfold dealt
  iintro ⟨HK, H⟩
  iexists K
  isplitl [HK]; · iexact HK
  iexact H

theorem regroup :
    (bigSep Finset.univ fun c : Dev nD => iprop((bigSep Finset.univ fun o : Option Own => iprop(∃ κ : ℕ, cellInv ER (sched m) κ (cell c o)))
          ∗ (bigSep Finset.univ fun o : Option Own => reached ER (cell c o) 0) ∗ places c ∗ toks c) : sProp 𝕄)
      ⊢ bigSep Finset.univ (dealt m) := by
  rw [bigSep_sep', bigSep_sep', ← bigSep_univ_prod (fun x : Dev nD × Option Own => iprop(∃ κ : ℕ, cellInv ER (sched m) κ (cell x.1 x.2))),
    ← bigSep_univ_prod (fun x : Dev nD × Option Own => (reached ER (cell x.1 x.2) 0 : sProp 𝕄))]
  iintro ⟨HI, HR, Hrest⟩
  ihave HK := (BI.bigSep_exists_pi Finset.univ (fun (x : Dev nD × Option Own) (κ : ℕ) => (cellInv ER (sched m) κ (cell x.1 x.2) : sProp 𝕄))) $$ HI
  icases HK with ⟨%K, HI⟩
  iapply (show iprop(known m K ∗ bigSep Finset.univ fun c : Dev nD => iprop(places c ∗ toks c)) ⊢ bigSep Finset.univ (dealt m) from
    (deal_known (known m K) fun c => iprop(places c ∗ toks c)).trans (bigSep_mono fun c _ => dealt_intro m K c))
  isplitl [HI HR]
  · unfold known
    isplitl [HI]; · iexact HI
    iexact HR
  iexact Hrest

/-- The global step: every device's counters at once. -/
theorem glob : (bigSep Finset.univ fun c => iprop(Pipeline.ownSems0 (Ix := Unit) (Name := ℕ) (U := UU) (Lvl := ℕ) (Val := Elt F) (τ := τ) ownSem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

/-! ## The side conditions -/

theorem rest_eq (c : Dev nD) :
    (Pipeline.unscopedRestP (Ix := Unit) (Name := ℕ) (U := UU) (Lvl := ℕ) Pipeline.Prefetch.none cfg0.spec c (fun b => m ((c : Thread nD τ).loc b)) : sProp 𝕄) = weights m c := by
  rw [show (Pipeline.unscopedRestP (Ix := Unit) (Name := ℕ) (U := UU) (Lvl := ℕ) Pipeline.Prefetch.none cfg0.spec c (fun b => m ((c : Thread nD τ).loc b)) : sProp 𝕄)
      = Pipeline.unscopedRest cfg0.spec c (fun b => m ((c : Thread nD τ).loc b)) from by
        unfold Pipeline.unscopedRestP Pipeline.unscopedRest; congr 1]
  exact unscopedRest0_eq c _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  rw [rest_eq]
  iintro ⟨Hw, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Hw
  · iempintro

theorem enter_point (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device gives back beside its own counters: its barrier's, and the weights as they were. -/
def left (c : Dev nD) : sProp 𝕄 := iprop(unscopedSems0 c ∗ weights m c)

theorem leave_point (c : Dev nD) :
    (dats m ρ 0 c).Φ (Fin.last cfg0.N) ⊢ iprop(left m c ∗ Pipeline.ownSems0 ownSem c ∗ Pipeline.scopedRest cfg0.spec c) := by
  rw [show (dats m ρ 0 c).Φ (Fin.last cfg0.N) = Φ₁ m c from rfl, scopedRest0_eq, own_eq]
  unfold Φ₁ left scratch
  rw [unscoped_eq]
  iintro ⟨HB, Hz, Hw, Hs⟩
  isplitl [HB Hw]
  · isplitl [HB]; · iexact HB
    iexact Hw
  isplitl [Hz]; · iexact Hz
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_of c _ 0 _ (by fin_cases w <;> fin_cases s <;> decide) (by
      rcases t with ⟨_ | _, ht⟩
      · intro g u hg
        rcases add_pos_or (show 0 < (owedFrom (owSnd c) 0 + owedFrom (owFst c) 0 + owedFrom (owBar c) 0) g u from hg) with h | h
        · rcases add_pos_or h with h | h
          · have := owSnd_pos h; exact ⟨this.1, by rw [this.2]; decide⟩
          · have := owFst_pos h; exact ⟨this.1, by rw [this.2]; decide⟩
        · have := owBar_pos h; exact ⟨this.1, by rw [this.2]; decide⟩
      · intro g u hg
        exact absurd hg (Nat.lt_irrefl 0))

/-! ## The run -/

/-- What a device's memory is read to hold at the end, beside the windows' arrays. -/
def readBack (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem read_left (c : Dev nD) (s' : Phys nD τ sig (Elt F)) : iprop(left m c ∗ emp ∗ SI s') ⊢ (|={Set.univ}=> iprop(⌜readBack m c s'.mem⌝ ∗ SI s') : sProp 𝕄) := by
  unfold left weights
  iintro ⟨⟨Hu, H2, H3⟩, -, HSI⟩
  icombine HSI H2 gives %h2
  icombine HSI H3 gives %h3
  imod (Pipeline.unscopedSems0_read (X := unscopedSems0 c) (c := c) fupd_intro s') $$ [Hu HSI] with ⟨%hs, HSI⟩
  · isplitl [Hu] <;> iassumption
  imodintro
  isplitr [HSI]
  · ipureintro
    exact ⟨hs, Buf.eq_of_forall_mem_univ h2, Buf.eq_of_forall_mem_univ h3⟩
  iexact HSI

/-- The windows' arrays at the end: the staged arguments as they were, the result as computed. -/
theorem final_in (c : Dev nD) (w : Fin cfg0.W) (h : (cfg0.win w).isOut = false) :
    (dats (F := F) m ρ 0 c).arrAt w cfg0.N = m ((cfg0.win w).arr.view.loc (c : Thread nD τ)) := (dats (F := F) m ρ 0 c).arrAt_in w h _

theorem whole_out : ∀ a, win0_3.index t0_0 a * win0_3.size a = 0 ∧ win0_3.xsize (grid0.coords t0_0) a = S16x32x1024.size a := by decide +kernel

theorem flushed_out (c : Dev nD) (t : Fin cfg0.N) : (dats (F := F) m ρ 0 c).flushed (3 : Fin 4) t = ((cfg0.win (3 : Fin 4)).blk t).view.read (Elt F) (resAt m) := by
  show (cfg0.win (3 : Fin 4)).cut (grid0.coords t) (resAt m) = (win0_3.blk t).view.read (Elt F) (resAt m)
  generalize resAt m = X
  rw [fin_N0 t]
  funext j
  refine congrArg X (funext fun a => Fin.ext ?_)
  show (j a).val = win0_3.index t0_0 a * win0_3.size a + 1 * (j a).val
  rw [(whole_out a).1]; omega

theorem final_out (c : Dev nD) : (dats (F := F) m ρ 0 c).arrAt (3 : Fin 4) cfg0.N = resAt m := by
  refine Dat.arrAt_eq_of_cover (dats (F := F) m ρ 0 c) (3 : Fin 4) (resAt m) (fun t _ => ?_) (fun i => ⟨t0_0, rfl, ?_⟩)
  · exact flushed_out m ρ c t
  · show i ∈ ((View.whole main_v1).slice (win0_3.rect t0_0)).set
    rw [View.set_slice_whole]
    rw [Rect.mem_set_unit]
    intro a
    show win0_3.index t0_0 a * win0_3.size a ≤ (i a : Nat) ∧ (i a : Nat) < win0_3.index t0_0 a * win0_3.size a + win0_3.xsize (grid0.coords t0_0) a
    rw [(whole_out a).1, (whole_out a).2, Nat.zero_add]
    exact ⟨Nat.zero_le _, (i a).isLt⟩

/-- What every final state satisfies. -/
def Ends (r : PUnit × MemSt nD τ sig (Elt F)) : Prop :=
  (∀ c : Dev nD, r.2.mem ((c : Thread nD τ).loc main_v1) = resAt m
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) ∧ r.2.sem = fun _ => 0

/-- Every weakly fair execution of @main on the sixteen devices, over any float values, terminates with the result on every
    device, the arguments as they were and every counter at zero. -/
theorem run_main : θ_run defs (onTc (τ := τ) (main (F := F))) (s₀ m ρ) (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := dealt m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := enter_point m ρ) (hout := leave_point m ρ)
    (QY := readBack m) (hY := read_left m)
    (hQ := fun s h hs => ⟨fun c => ⟨((h c).1 (3 : Fin 4)).trans (final_out m ρ c), ((h c).1 (0 : Fin 4)).trans (final_in m ρ c 0 rfl), ((h c).1 (1 : Fin 4)).trans (final_in m ρ c 1 rfl),
      (h c).2.2.2.1, (h c).2.2.2.2, ((h c).1 (2 : Fin 4)).trans (final_in m ρ c 2 rfl)⟩, sem_eq_zero hs fun c => (h c).2.2.1⟩)

end Cert.Exchange

end
-- ==== Proof.Frames.lean ====
/-
# The frames

Each frame is a run with the values dropped. The kernel's run (`run_main`) is over any float values, and the two printed texts of
the kernel agree, so it gives the frame of both. The reference declares no semaphore, so its counters are zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Frames

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The shape relations the precondition states of one device's blocks. -/
theorem preKernel : Cert.Pre_finite_scores_KernelIdeal.Facts := ⟨by decide, by decide, by decide⟩
/-- The shape relations the precondition states of the whole arrays. -/
theorem preReference : Cert.Pre_finite_scores_ReferenceIdeal.Facts := ⟨by decide, by decide, by decide⟩

instance : Cert.Pre_finite_scores_KernelIdeal.Facts := preKernel
instance : Cert.Pre_finite_scores_ReferenceIdeal.Facts := preReference

/-- Over any float values the kernel runs, keeps its arguments, and ends quiescent. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).2, h.2⟩) (Cert.Exchange.run_main m ρ)

/-- The two texts' body tables agree, -/
theorem bodies_eq : Cert.Kernel.defs₀ (F := Bits) = Cert.KernelIdeal.defs₀ (F := Bits) := by
  unfold Cert.Kernel.defs₀ Cert.KernelIdeal.defs₀
  refine congrArg Defs.onTc ?_
  funext l
  match l with
  | 0 => funext ⟨t, s⟩; rfl

/-- and so do the tables of the whole programs. -/
theorem tables_eq : Cert.Kernel.defs (F := Bits) = Cert.KernelIdeal.defs (F := Bits) :=
  congrArg (Pipeline.defs (Cert.KernelIdeal.pcfgs (F := Bits))) bodies_eq

/-- So the printed kernel has the same frame, at the machine's floats, -/
theorem frame_kernel : Cert.quiescent_Kernel := by
  intro m ρ _
  rw [tables_eq]
  exact frame_any (F := Bits) m ρ

/-- and the idealized one at the ideal ones, -/
theorem frame_ideal : Cert.quiescent_KernelIdeal := fun m ρ _ => frame_any (F := Ideal) m ρ

/-- in particular from the memories the precondition picks. -/
theorem frame_ideal_pre : Cert.quiescent_KernelIdeal_pre_finite_scores_KernelIdeal := fun m ρ _ => frame_ideal m ρ trivial

/-- The reference runs, keeps its arguments, and has no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_reference_pre : Cert.quiescent_ReferenceIdeal_pre_finite_scores_ReferenceIdeal :=
  fun m ρ _ => frame_reference m ρ trivial

end Cert.Frames

end
-- ==== Proof.Attention.lean ====
/-
# Attention of one query row

The kernel exponentiates the scaled scores as they are and multiplies by the reciprocal of their sum (`attnK`); the reference
subtracts the largest score first and divides (`attnR`). Where queries and keys are finite the scores are, so the factor
`exp (- max)` is a positive real that cancels. The values may be infinite.
-/
module

public import Idealize.ShloMosaic.PureOps.Ideal

@[expose] public section

noncomputable section

namespace Cert.Attention

open Idealize.ShloMosaic
open scoped BigOperators

variable {E J : ℕ}

/-- The kernel's row: `q` already scaled. -/
def attnK (q : Fin E → EReal) (k : Fin J → Fin E → EReal) (v : Fin J → EReal) : EReal :=
  (∑ j, Ideal.exp (∑ e, q e * k j e) * v j) * Ideal.div 1 (∑ j, Ideal.exp (∑ e, q e * k j e))

/-- The reference's row, given the number `M` it subtracts. -/
def attnR (S M : EReal) (q : Fin E → EReal) (k : Fin J → Fin E → EReal) (v : Fin J → EReal) : EReal :=
  Ideal.div (∑ j, v j * Ideal.exp ((∑ e, q e * k j e) * S - M)) (∑ j, Ideal.exp ((∑ e, q e * k j e) * S - M))

/-- A sum of reals is a real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor comes out of any sum. -/
theorem sum_mul_coe {ι : Type} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- The largest of finitely many reals, at least one, is a real. -/
theorem sup_real [NeZero J] (s : Fin J → ℝ) : ∃ m : ℝ, (Finset.univ.sup fun j => (s j : EReal)) = (m : EReal) := by
  have hb : (Finset.univ.sup fun j => (s j : EReal)) ≠ ⊥ := fun h =>
    EReal.coe_ne_bot (s 0) (le_bot_iff.1 (h ▸ Finset.le_sup (f := fun j => (s j : EReal)) (Finset.mem_univ 0)))
  have ht : (Finset.univ.sup fun j => (s j : EReal)) ≠ ⊤ :=
    ne_of_lt ((Finset.sup_lt_iff (by decide)).2 fun j _ => EReal.coe_lt_top (s j))
  exact ⟨_, (EReal.coe_toReal ht hb).symm⟩

/-- A score, scaled before or after the product. -/
theorem score_eq (S : ℝ) (q k : Fin E → ℝ) :
    (∑ e, ((q e : EReal) * (S : EReal)) * (k e : EReal)) = (((∑ e, q e * k e) * S : ℝ) : EReal)
      ∧ (∑ e, (q e : EReal) * (k e : EReal)) * (S : EReal) = (((∑ e, q e * k e) * S : ℝ) : EReal) := by
  constructor
  · rw [show (fun e => ((q e : EReal) * (S : EReal)) * (k e : EReal)) = fun e => ((q e * S * k e : ℝ) : EReal) from
      funext fun e => by rw [EReal.coe_mul, EReal.coe_mul], sum_coe, Finset.sum_mul]
    congr 1
    exact Finset.sum_congr rfl fun e _ => by ring
  · rw [show (fun e => (q e : EReal) * (k e : EReal)) = fun e => ((q e * k e : ℝ) : EReal) from
      funext fun e => by rw [EReal.coe_mul], sum_coe, EReal.coe_mul]

/-- THE ROW: with finite queries and keys the two agree, whatever real is subtracted. -/
theorem attn_eq [NeZero J] (S m : ℝ) (q : Fin E → ℝ) (k : Fin J → Fin E → ℝ) (v : Fin J → EReal) :
    attnR S m (fun e => (q e : EReal)) (fun j e => (k j e : EReal)) v
      = attnK (fun e => (q e : EReal) * (S : EReal)) (fun j e => (k j e : EReal)) v := by
  unfold attnR attnK
  simp only [(score_eq S q _).1, (score_eq S q _).2, ← EReal.coe_sub]
  set s : Fin J → ℝ := fun j => (∑ e, q e * k j e) * S with hs
  have hE : 0 < Real.exp (-m) := Real.exp_pos _
  have hL : 0 < ∑ j, Real.exp (s j) := Finset.sum_pos (fun j _ => Real.exp_pos _) ⟨0, Finset.mem_univ _⟩
  have hexp : ∀ r : ℝ, Ideal.exp (r : EReal) = ((Real.exp r : ℝ) : EReal) := fun _ => rfl
  have hp : ∀ j, Ideal.exp ((s j - m : ℝ) : EReal) = ((Real.exp (s j) * Real.exp (-m) : ℝ) : EReal) := fun j => by
    rw [hexp, sub_eq_add_neg, Real.exp_add]
  show Ideal.div (∑ j, v j * Ideal.exp ((s j - m : ℝ) : EReal)) (∑ j, Ideal.exp ((s j - m : ℝ) : EReal))
    = (∑ j, Ideal.exp ((s j : ℝ) : EReal) * v j) * Ideal.div 1 (∑ j, Ideal.exp ((s j : ℝ) : EReal))
  simp only [hp]
  simp only [hexp]
  rw [sum_coe, sum_coe, ← Finset.sum_mul,
    show (fun j => v j * ((Real.exp (s j) * Real.exp (-m) : ℝ) : EReal))
      = fun j => (((Real.exp (s j) : ℝ) : EReal) * v j) * ((Real.exp (-m) : ℝ) : EReal) from
      funext fun j => by rw [EReal.coe_mul, ← mul_assoc, mul_comm (v j)], sum_mul_coe _ _ hE.le]
  have h1 : (((∑ j, Real.exp (s j)) * Real.exp (-m) : ℝ) : EReal) ≠ 0 := by
    exact_mod_cast (mul_pos hL hE).ne'
  have h2 : ((∑ j, Real.exp (s j) : ℝ) : EReal) ≠ 0 := by exact_mod_cast hL.ne'
  rw [Ideal.div, if_neg h1, Ideal.div, if_neg h2, one_mul, mul_assoc, ← EReal.coe_inv, ← EReal.coe_inv, ← EReal.coe_mul]
  congr 2
  field_simp

end Cert.Attention

end
-- ==== Proof.Heads.lean ====
/-
# One device's partial result, element by element

At the ideal floats: the projections, one group of four heads that share a key and value head, and the output projection of the
eight heads laid side by side.
-/
module

public import proofs.«01_k».proof.Proof.Attention
public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.Heads

open Cert.KernelIdeal Cert.KernelIdeal.Gen Cert.Attention
open Idealize.ShloMosaic
open scoped BigOperators

/-- The scale the scores are multiplied by. -/
abbrev scale : EReal := Ideal.ofBits .f32 0x3DB504F3#32

/-! ## The projections -/

theorem pay2_apply (x : Vec Ideal S1x512x1024 .f32) (w : Vec Ideal S1024x1024 .f32) (i : Fin 512) (n : Fin 1024) :
    k0_pay2 x w (ix2 i n) = (∑ k : Fin 1024, x (ix3 0 i k) * w (ix2 k n)) * scale := by
  pointwise [k0_pay2, k0_pay1, dot_S512x1024_S1024x1024_S512x1024_1_0_0_1_n_n]

theorem pay3_apply (x : Vec Ideal S1x512x1024 .f32) (w : Vec Ideal S1024x256 .f32) (i : Fin 512) (n : Fin 256) :
    k0_pay3 x w (ix2 i n) = ∑ k : Fin 1024, x (ix3 0 i k) * w (ix2 k n) := by
  pointwise [k0_pay3, k0_pay1, dot_S512x1024_S1024x256_S512x256_1_0_0_1_n_n]

theorem pay4_apply (x : Vec Ideal S1x512x1024 .f32) (w : Vec Ideal S1024x256 .f32) (i : Fin 512) (n : Fin 256) :
    k0_pay4 x w (ix2 i n) = ∑ k : Fin 1024, x (ix3 0 i k) * w (ix2 k n) := by
  pointwise [k0_pay4, k0_pay1, dot_S512x1024_S1024x256_S512x256_1_0_0_1_n_n]

/-! ## Four heads at once -/

/-- Four heads' query rows, one head below the other, against one key and value head. -/
def four (q : FVec Ideal S2048x128 .f32) (k v : FVec Ideal S512x128 .bf16) : FVec Ideal S2048x128 .f32 :=
  let s := exp (matmul dot_S2048x128_S512x128_S2048x512_1_1_0_0_n_n none (truncf .bf16 q bitsLt_bf16_f32) k (constant S2048x512 .f32 0x00000000#32))
  let l := shapeCast S2048x1 (multiReduction .add [1] S2048 s 0x00000000#32 reduces_S2048x512_S2048 (.inl rfl) rfl) shapeCasts_S2048_S2048x1
  mulf (matmul dot_S2048x512_S512x128_S2048x128_1_0_0_1_n_n none (truncf .bf16 s bitsLt_bf16_f32) v (constant S2048x128 .f32 0x00000000#32))
    (broadcastTo S2048x128 (divf (broadcast S2048x1 (Scalar.ofBits .f32 0x3F800000#32 : Ideal .f32)) l) broadcasts_S2048x1_S2048x128)

theorem four_apply (q : FVec Ideal S2048x128 .f32) (k v : FVec Ideal S512x128 .bf16) (r : Fin 2048) (d : Fin 128) :
    four q k v (ix2 r d) = attnK (fun e => q (ix2 r e)) (fun j e => k (ix2 j e)) (fun j => v (ix2 j d)) := by
  pointwise [four, attnK, dot_S2048x128_S512x128_S2048x512_1_1_0_0_n_n, dot_S2048x512_S512x128_S2048x128_1_0_0_1_n_n]

/-- Four pieces laid one below the other, read. -/
theorem below_apply (f : Fin 4 → S512x128.Idx → EReal) (h) (r : Fin 2048) (e : Fin 128) (n : Fin 4) (i : Fin 512)
    (hr : r.val = 512 * n.val + i.val) :
    concatenate S2048x128 0 (List.ofFn fun n : Fin 4 => (⟨S512x128, f n⟩ : (s : Shape) × (s.Idx → EReal))) h (ix2 r e) = f n (ix2 i e) := by
  have hi := i.isLt
  refine concatenate_ofFn_apply (0 : Fin S2048x128.rank) f h rfl 512 rfl (ix2 r e) n ?_ (ix2 i e) ?_ ?_
  · show r.val / 512 = n.val; omega
  · show i.val = r.val % 512; omega
  · intro b hb
    match b with
    | 0 => exact absurd rfl hb
    | 1 => rfl

/-- Eight pieces laid side by side, read. -/
theorem beside_apply (f : Fin 8 → S512x128.Idx → EReal) (h) (i : Fin 512) (c : Fin 1024) (n : Fin 8) (d : Fin 128)
    (hc : c.val = 128 * n.val + d.val) :
    concatenate S512x1024 1 (List.ofFn fun n : Fin 8 => (⟨S512x128, f n⟩ : (s : Shape) × (s.Idx → EReal))) h (ix2 i c) = f n (ix2 i d) := by
  have hd := d.isLt
  refine concatenate_ofFn_apply (1 : Fin S512x1024.rank) f h rfl 128 rfl (ix2 i c) n ?_ (ix2 i d) ?_ ?_
  · show c.val / 128 = n.val; omega
  · show d.val = c.val % 128; omega
  · intro b hb
    match b with
    | 0 => rfl
    | 1 => exact absurd rfl hb

/-! ## The two groups -/

theorem slices_q (g : Fin 2) : ∀ n : Fin 4, S512x1024.Slices ![0, 512 * g.val + 128 * n.val] S512x128 := by revert g; decide
theorem slices_kv : ∀ g : Fin 2, S512x256.Slices ![0, 128 * g.val] S512x128 := by decide
theorem slices_out : ∀ n : Fin 8, S2048x128.Slices ![512 * (n.val % 4), 0] S512x128 := by decide

/-- Group `g`'s four heads' query columns, laid one below the other. -/
def rows (q : FVec Ideal S512x1024 .f32) (g : Fin 2) : FVec Ideal S2048x128 .f32 :=
  concatenate S2048x128 0
    (List.ofFn fun n : Fin 4 => (⟨S512x128, extractStridedSlice S512x128 ![0, 512 * g.val + 128 * n.val] q (slices_q g n)⟩ : (s : Shape) × (s.Idx → EReal)))
    concatenates_S512x128_S512x128_S512x128_S512x128_S2048x128_d0

/-- Group `g`'s key or value columns. -/
def cols (k : FVec Ideal S512x256 .bf16) (g : Fin 2) : FVec Ideal S512x128 .bf16 :=
  extractStridedSlice S512x128 ![0, 128 * g.val] k (slices_kv g)

/-- Group `g`'s four heads. -/
def group (q : FVec Ideal S512x1024 .f32) (k v : FVec Ideal S512x256 .bf16) (g : Fin 2) : FVec Ideal S2048x128 .f32 :=
  four (rows q g) (cols k g) (cols v g)

/-- The group head `n` belongs to. -/
def groupOf (n : Fin 8) : Fin 2 := ⟨n.val / 4, by omega⟩

/-- The eight heads side by side. -/
def heads (q : FVec Ideal S512x1024 .f32) (k v : FVec Ideal S512x256 .bf16) : FVec Ideal S512x1024 .bf16 :=
  concatenate S512x1024 1
    (List.ofFn fun n : Fin 8 => (⟨S512x128, extractStridedSlice S512x128 ![512 * (n.val % 4), 0] (group q k v (groupOf n)) (slices_out n)⟩ : (s : Shape) × (s.Idx → EReal)))
    concatenates_S512x128_S512x128_S512x128_S512x128_S512x128_S512x128_S512x128_S512x128_S512x1024_d1

theorem pay5_eq (x : Vec Ideal S1x512x1024 .f32) (wq : Vec Ideal S1024x1024 .f32) (wk wv : Vec Ideal S1024x256 .f32) :
    k0_pay5 x wq wk wv = group (k0_pay2 x wq) (k0_pay3 x wk) (k0_pay4 x wv) 0 := rfl

/-- What the partial result is computed from the projections. -/
def outOf (q : FVec Ideal S512x1024 .f32) (k v : FVec Ideal S512x256 .bf16) (wo : Vec Ideal S1024x1024 .f32) : FVec Ideal S16x32x1024 .bf16 :=
  shapeCast S16x32x1024 (shapeCast S16x32x1024 (truncf .bf16 (matmul dot_S512x1024_S1024x1024_S512x1024_1_0_0_1_n_n none (heads q k v)
    (truncf .bf16 (shapeCast S1024x1024 wo shapeCasts_S1024x1024_S1024x1024) bitsLt_bf16_f32) (constant S512x1024 .f32 0x00000000#32)) bitsLt_bf16_f32)
    shapeCasts_S512x1024_S16x32x1024) shapeCasts_S16x32x1024_S16x32x1024

theorem pay8_eq (x : Vec Ideal S1x512x1024 .f32) (wq : Vec Ideal S1024x1024 .f32) (wk wv : Vec Ideal S1024x256 .f32) (wo : Vec Ideal S1024x1024 .f32) :
    k0_pay8 (k0_pay2 x wq) (k0_pay3 x wk) (k0_pay4 x wv) (k0_pay5 x wq wk wv) (k0_pay6 x wq wk wv) (k0_pay7 x wq wk wv) wo
      = outOf (k0_pay2 x wq) (k0_pay3 x wk) (k0_pay4 x wv) wo := rfl

/-! ## Element by element -/

/-- Row `i` of head column `c`: the head's query columns, its group's key columns, its group's value column. -/
def headAt (q : Fin 512 → Fin 1024 → EReal) (k v : Fin 512 → Fin 256 → EReal) (i : Fin 512) (c : Fin 1024) : EReal :=
  attnK (fun e : Fin 128 => q i ⟨128 * (c.val / 128) + e.val, by omega⟩)
    (fun j (e : Fin 128) => k j ⟨128 * (c.val / 512) + e.val, by omega⟩)
    (fun j => v j ⟨128 * (c.val / 512) + c.val % 128, by omega⟩)

theorem rows_apply (q : FVec Ideal S512x1024 .f32) (g : Fin 2) (n : Fin 4) (i : Fin 512) (e : Fin 128) (r : Fin 2048)
    (hr : r.val = 512 * n.val + i.val) :
    rows q g (ix2 r e) = q (ix2 i ⟨512 * g.val + 128 * n.val + e.val, by omega⟩) := by
  refine (below_apply (fun n => extractStridedSlice S512x128 ![0, 512 * g.val + 128 * n.val] q (slices_q g n)) _ r e n i hr).trans ?_
  refine extractStridedSlice_apply _ _ _ _ _ fun a => ?_
  match a with
  | 0 => show i.val = 0 + i.val; omega
  | 1 => rfl

theorem cols_apply (k : FVec Ideal S512x256 .bf16) (g : Fin 2) (j : Fin 512) (e : Fin 128) :
    cols k g (ix2 j e) = k (ix2 j ⟨128 * g.val + e.val, by omega⟩) := by
  refine extractStridedSlice_apply _ _ _ _ _ fun a => ?_
  match a with
  | 0 => show j.val = 0 + j.val; omega
  | 1 => rfl

/-- One head's rows of its group. -/
theorem group_apply (q : FVec Ideal S512x1024 .f32) (k v : FVec Ideal S512x256 .bf16) (n : Fin 8) (i : Fin 512) (d : Fin 128)
    (r : Fin 2048) (hr : r.val = 512 * (n.val % 4) + i.val) :
    group q k v (groupOf n) (ix2 r d) = attnK (fun e : Fin 128 => q (ix2 i ⟨128 * n.val + e.val, by omega⟩))
      (fun j (e : Fin 128) => k (ix2 j ⟨128 * (n.val / 4) + e.val, by omega⟩))
      (fun j => v (ix2 j ⟨128 * (n.val / 4) + d.val, by omega⟩)) := by
  rw [group, four_apply]
  have hq : ∀ e : Fin 128, rows q (groupOf n) (ix2 r e) = q (ix2 i ⟨128 * n.val + e.val, by omega⟩) := fun e => by
    rw [rows_apply q (groupOf n) ⟨n.val % 4, by omega⟩ i e r hr]
    congr 2
    apply Fin.ext
    show 512 * (n.val / 4) + 128 * (n.val % 4) + e.val = 128 * n.val + e.val
    omega
  have hk : ∀ (k : FVec Ideal S512x256 .bf16) (j : Fin 512) (e : Fin 128),
      cols k (groupOf n) (ix2 j e) = k (ix2 j ⟨128 * (n.val / 4) + e.val, by omega⟩) := fun k j e => cols_apply k (groupOf n) j e
  rw [funext hq, show (fun j e => cols k (groupOf n) (ix2 j e)) = _ from funext fun j => funext fun e => hk k j e,
    show (fun j => cols v (groupOf n) (ix2 j d)) = _ from funext fun j => hk v j d]

theorem heads_at (q : FVec Ideal S512x1024 .f32) (k v : FVec Ideal S512x256 .bf16) (i : Fin 512) (c : Fin 1024) (n : Fin 8) (d : Fin 128)
    (hc : c.val = 128 * n.val + d.val) (r : Fin 2048) (hr : r.val = 512 * (n.val % 4) + i.val) :
    heads q k v (ix2 i c) = group q k v (groupOf n) (ix2 r d) := by
  unfold heads
  refine (beside_apply _ concatenates_S512x128_S512x128_S512x128_S512x128_S512x128_S512x128_S512x128_S512x128_S512x1024_d1 i c n d hc).trans ?_
  refine extractStridedSlice_apply _ _ _ _ (ix2 r d) fun a => ?_
  match a with
  | 0 => show r.val = 512 * (n.val % 4) + i.val; omega
  | 1 => show d.val = 0 + d.val; omega

theorem heads_apply (q : FVec Ideal S512x1024 .f32) (k v : FVec Ideal S512x256 .bf16) (i : Fin 512) (c : Fin 1024) :
    heads q k v (ix2 i c) = headAt (fun i n => q (ix2 i n)) (fun j n => k (ix2 j n)) (fun j n => v (ix2 j n)) i c := by
  have hc := c.isLt
  obtain ⟨n, hn⟩ : ∃ n : Fin 8, n.val = c.val / 128 := ⟨⟨c.val / 128, by omega⟩, rfl⟩
  obtain ⟨d, hd⟩ : ∃ d : Fin 128, d.val = c.val % 128 := ⟨⟨c.val % 128, by omega⟩, rfl⟩
  obtain ⟨r, hr⟩ : ∃ r : Fin 2048, r.val = 512 * (n.val % 4) + i.val := ⟨⟨512 * (n.val % 4) + i.val, by omega⟩, rfl⟩
  have h4 : n.val / 4 = c.val / 512 := by omega
  rw [heads_at q k v i c n d (by omega) r hr, group_apply q k v n i d r hr, headAt]
  simp only [h4]
  simp only [hn, hd]

/-- The partial result at slot `s`, row `i`, column `n`. -/
theorem outOf_apply (q : FVec Ideal S512x1024 .f32) (k v : FVec Ideal S512x256 .bf16) (wo : Vec Ideal S1024x1024 .f32)
    (s : Fin 16) (i : Fin 32) (n : Fin 1024) :
    outOf q k v wo (ix3 s i n) = ∑ c : Fin 1024, headAt (fun i n => q (ix2 i n)) (fun j n => k (ix2 j n)) (fun j n => v (ix2 j n))
      ⟨32 * s.val + i.val, by omega⟩ c * wo (ix2 c n) := by
  rw [outOf, shapeCast_self, shapeCast_self]
  rw [shapeCast_apply _ _ _ (ix2 (⟨32 * s.val + i.val, by omega⟩ : Fin 512) n) (by
    rw [Shape.rowMajor_val_two, Shape.rowMajor_val_three]
    show (32 * s.val + i.val) * 1024 + n.val = (s.val * 32 + i.val) * 1024 + n.val
    omega)]
  pointwise [dot_S512x1024_S1024x1024_S512x1024_1_0_0_1_n_n, heads_apply]

end Cert.Heads

end
-- ==== Proof.KernelValue.lean ====
/-
# The kernel's result, element by element

What the buffers of `Protocol` hold, in terms of the launch memory: the staged arrays are the arguments themselves, the copied
columns are the device's 256 of the 4096, and the result is the sum over the devices of their partial results.
-/
module

public import proofs.«01_k».proof.Proof.Heads
public import proofs.«01_k».proof.Proof.Protocol

@[expose] public section

set_option maxRecDepth 16384

noncomputable section

namespace Cert.KernelValue

open Cert.KernelIdeal Cert.KernelIdeal.Gen Cert.Attention Cert.Heads Cert.Exchange
open Idealize.ShloMosaic
open Idealize.ShloMosaic.TcCoe
open scoped BigOperators

variable (m : (ℓ : Loc nD τ sig) → Buf (Elt Ideal) ℓ)

theorem whole_in : (∀ a, win0_0.index t0_0 a * win0_0.size a = 0) ∧ (∀ a, win0_1.index t0_0 a * win0_1.size a = 0)
    ∧ ∀ a, win0_2.index t0_0 a * win0_2.size a = 0 := by decide +kernel

theorem x_eq (c : Dev nD) : xAt m c = m ((c : Thread nD τ).loc main_arg0) := by
  unfold xAt
  generalize m ((c : Thread nD τ).loc main_arg0) = X
  funext j
  refine congrArg X (funext fun a => Fin.ext ?_)
  show win0_0.index t0_0 a * win0_0.size a + 1 * (j a).val = (j a).val
  rw [whole_in.1 a]; omega

theorem wq_eq (c : Dev nD) : wqAt m c = m ((c : Thread nD τ).loc main_arg1) := by
  unfold wqAt
  generalize m ((c : Thread nD τ).loc main_arg1) = X
  funext j
  refine congrArg X (funext fun a => Fin.ext ?_)
  show win0_1.index t0_0 a * win0_1.size a + 1 * (j a).val = (j a).val
  rw [whole_in.2.1 a]; omega

theorem wo_eq (c : Dev nD) : woAt m c = m ((c : Thread nD τ).loc main_arg4) := by
  unfold woAt
  generalize m ((c : Thread nD τ).loc main_arg4) = X
  funext j
  refine congrArg X (funext fun a => Fin.ext ?_)
  show win0_2.index t0_0 a * win0_2.size a + 1 * (j a).val = (j a).val
  rw [whole_in.2.2 a]; omega

theorem off_eq : ∀ c : Dev nD, k0_off1 c 0 = 0 ∧ k0_off1 c 1 = 256 * c.val := by decide +kernel

theorem wk_apply (c : Dev nD) (k : Fin 1024) (n : Fin 256) :
    wkAt m c (ix2 k n) = (m ((c : Thread nD τ).loc main_arg2) : S1024x4096.Idx → EReal)
      (ix2 k ⟨256 * (c : Fin 16).val + n.val, by have : (c : Fin 16).val < 16 := c.isLt; omega⟩) := by
  unfold wkAt
  generalize m ((c : Thread nD τ).loc main_arg2) = X
  refine congrArg X (funext fun a => Fin.ext ?_)
  match a with
  | 0 => show k0_off1 c 0 + 1 * k.val = k.val; rw [(off_eq c).1]; omega
  | 1 => show k0_off1 c 1 + 1 * n.val = 256 * (c : Fin 16).val + n.val; rw [(off_eq c).2]; omega

theorem wv_apply (c : Dev nD) (k : Fin 1024) (n : Fin 256) :
    wvAt m c (ix2 k n) = (m ((c : Thread nD τ).loc main_arg3) : S1024x4096.Idx → EReal)
      (ix2 k ⟨256 * (c : Fin 16).val + n.val, by have : (c : Fin 16).val < 16 := c.isLt; omega⟩) := by
  unfold wvAt
  generalize m ((c : Thread nD τ).loc main_arg3) = X
  refine congrArg X (funext fun a => Fin.ext ?_)
  match a with
  | 0 => show k0_off1 c 0 + 1 * k.val = k.val; rw [(off_eq c).1]; omega
  | 1 => show k0_off1 c 1 + 1 * n.val = 256 * (c : Fin 16).val + n.val; rw [(off_eq c).2]; omega

/-- A device's partial result. -/
theorem partial_apply (c : Dev nD) (s : Fin 16) (i : Fin 32) (n : Fin 1024) :
    partialAt m c (ix3 s i n) = ∑ col : Fin 1024, headAt
      (fun i n => (∑ k : Fin 1024, xAt m c (ix3 0 i k) * wqAt m c (ix2 k n)) * scale)
      (fun j n => ∑ k : Fin 1024, xAt m c (ix3 0 j k) * wkAt m c (ix2 k n))
      (fun j n => ∑ k : Fin 1024, xAt m c (ix3 0 j k) * wvAt m c (ix2 k n))
      ⟨32 * s.val + i.val, by omega⟩ col * woAt m c (ix2 col n) := by
  rw [partialAt, pay8_eq, outOf_apply]
  simp only [pay2_apply, pay3_apply, pay4_apply]

/-- The sum a device makes of what it received. -/
theorem pay11_apply (y : Vec Ideal S16x32x1024 .bf16) (i : Fin 32) (n : Fin 1024) :
    k0_pay11 y (ix3 0 i n) = ∑ c : Fin 16, y (ix3 c i n) := by
  pointwise [k0_pay11]

/-- The result: the sum of all devices' partial results. -/
theorem res_apply (s : Fin 16) (i : Fin 32) (n : Fin 1024) :
    resAt m (ix3 s i n) = ∑ c : Fin 16, partialAt m (c : Dev nD) (ix3 s i n) := by
  show k0_pay11 (recvAt m s) (ValueIdx.ix3 (0 : Fin 1) i n) = _
  rw [show (ValueIdx.ix3 (0 : Fin 1) i n : S1x32x1024.Idx) = ix3 0 i n from rfl, pay11_apply]
  refine Finset.sum_congr rfl fun c _ => ?_
  show partialAt m c (ValueIdx.ix3 s i n) = _
  rfl

end Cert.KernelValue

end
-- ==== Proof.RefValue.lean ====
/-
# The reference's result, element by element

At the ideal floats: the reference's projections, its scores, the running maximum and weights of its one tile of keys, and the
output projection of its 128 heads.
-/
module

public import proofs.«01_k».proof.Proof.Attention
public import proofs.«01_k».proof.Proof.Gen.ReferenceIdeal.Run
public import Idealize.ShloMosaic.Lib.Pointwise
public import Idealize.ShloMosaic.Lib.Pipeline.Value

@[expose] public section

set_option maxRecDepth 16384

noncomputable section

namespace Cert.RefValue

open Cert.ReferenceIdeal Cert.ReferenceIdeal.Gen Cert.Attention
open Idealize.ShloMosaic
open Idealize.ShloMosaic.TcCoe
open scoped BigOperators

/-- The scale the scores are multiplied by. -/
abbrev scale : EReal := Ideal.ofBits .f32 0x3DB504F3#32

/-- The bits of minus infinity. -/
abbrev low : EReal := Ideal.ofBits .f32 0xFF800000#32

/-! ## The heads -/

/-- The query heads: the projection's columns cut in 128s. -/
def qHeads (x : FVec Ideal S1x512x1024 .f32) (w : FVec Ideal S1024x16384 .f32) : FVec Ideal S1x512x128x128 .f32 :=
  shapeCast _ (Host.dotGeneral dot_S1x512x1024_S1024x16384_S1x512x16384_2_0_01_1_n_n none x w) shapeCasts_S1x512x16384_S1x512x128x128

/-- The key or value heads: each of the 32 projected heads four times over. -/
def kvHeads (x : FVec Ideal S1x512x1024 .f32) (w : FVec Ideal S1024x4096 .f32) : FVec Ideal S1x512x128x128 .f32 :=
  shapeCast _ (broadcastInDim S1x512x32x4x128 ![0, 1, 2, 4] bcast_S1x512x32x128_S1x512x32x4x128_0_1_2_4
    (shapeCast _ (Host.dotGeneral dot_S1x512x1024_S1024x4096_S1x512x4096_2_0_01_1_n_n none x w) shapeCasts_S1x512x4096_S1x512x32x128))
    shapeCasts_S1x512x32x4x128_S1x512x128x128

theorem q_dot (x : FVec Ideal S1x512x1024 .f32) (w : FVec Ideal S1024x16384 .f32) (i : Fin 512) (n : Fin 16384) :
    (Host.dotGeneral dot_S1x512x1024_S1024x16384_S1x512x16384_2_0_01_1_n_n none x w : FVec Ideal S1x512x16384 .f32) (ix3 0 i n)
      = ∑ k : Fin 1024, x (ix3 0 i k) * w (ix2 k n) := by
  pointwise [dot_S1x512x1024_S1024x16384_S1x512x16384_2_0_01_1_n_n]

theorem kv_dot (x : FVec Ideal S1x512x1024 .f32) (w : FVec Ideal S1024x4096 .f32) (i : Fin 512) (n : Fin 4096) :
    (Host.dotGeneral dot_S1x512x1024_S1024x4096_S1x512x4096_2_0_01_1_n_n none x w : FVec Ideal S1x512x4096 .f32) (ix3 0 i n)
      = ∑ k : Fin 1024, x (ix3 0 i k) * w (ix2 k n) := by
  pointwise [dot_S1x512x1024_S1024x4096_S1x512x4096_2_0_01_1_n_n]

theorem q_heads_apply (x : FVec Ideal S1x512x1024 .f32) (w : FVec Ideal S1024x16384 .f32) (i : Fin 512) (h e : Fin 128) :
    qHeads x w (ix4 0 i h e) = ∑ k : Fin 1024, x (ix3 0 i k) * w (ix2 k ⟨128 * h.val + e.val, by omega⟩) := by
  rw [qHeads, shapeCast_apply _ _ _ (ix3 0 i (⟨128 * h.val + e.val, by omega⟩ : Fin 16384)) (by
    rw [Shape.rowMajor_val_three, Shape.rowMajor_val_four]
    show (0 * 512 + i.val) * 16384 + (128 * h.val + e.val) = ((0 * 512 + i.val) * 128 + h.val) * 128 + e.val
    omega)]
  exact q_dot x w i _

theorem kv_heads_apply (x : FVec Ideal S1x512x1024 .f32) (w : FVec Ideal S1024x4096 .f32) (j : Fin 512) (h e : Fin 128) :
    kvHeads x w (ix4 0 j h e) = ∑ k : Fin 1024, x (ix3 0 j k) * w (ix2 k ⟨128 * (h.val / 4) + e.val, by omega⟩) := by
  rw [kvHeads, shapeCast_apply _ _ _ (ix5 0 j (⟨h.val / 4, by omega⟩ : Fin 32) (⟨h.val % 4, by omega⟩ : Fin 4) e) (by
    rw [Shape.rowMajor_val_five, Shape.rowMajor_val_four]
    show (((0 * 512 + j.val) * 32 + h.val / 4) * 4 + h.val % 4) * 128 + e.val = ((0 * 512 + j.val) * 128 + h.val) * 128 + e.val
    omega)]
  refine Eq.trans ?_ (kv_dot x w j _)
  generalize Host.dotGeneral dot_S1x512x1024_S1024x4096_S1x512x4096_2_0_01_1_n_n none x w = y
  refine Eq.trans (b := shapeCast S1x512x32x128 y shapeCasts_S1x512x4096_S1x512x32x128 (ix4 0 j (⟨h.val / 4, by omega⟩ : Fin 32) e)) ?_ ?_
  · generalize shapeCast S1x512x32x128 y shapeCasts_S1x512x4096_S1x512x32x128 = z
    pointwise
  · refine shapeCast_apply _ _ _ _ ?_
    rw [Shape.rowMajor_val_three, Shape.rowMajor_val_four]
    show (0 * 512 + j.val) * 4096 + (128 * (h.val / 4) + e.val) = ((0 * 512 + j.val) * 32 + h.val / 4) * 128 + e.val
    omega

/-! ## The scores, their maximum and the weights -/

def scores (q k : FVec Ideal S1x512x128x128 .f32) : FVec Ideal S1x128x512x512 .f32 :=
  mulf (Host.dotGeneral dot_S1x512x128x128_S1x512x128x128_S1x128x512x512_3_3_1_1_02_02 none q k)
    (broadcastInDim S1x128x512x512 ![] bcast_S_S1x128x512x512 (constant S_ .f32 0x3DB504F3#32))

def top (s : FVec Ideal S1x128x512x512 .f32) : FVec Ideal S1x128x512x1 .f32 :=
  maximumf (broadcastInDim S1x128x512x1 ![] bcast_S_S1x128x512x1 (constant S_ .f32 0xFF800000#32))
    (broadcastInDim S1x128x512x1 ![0, 1, 2] bcast_S1x128x512_S1x128x512x1_0_1_2
      (Host.reduce FloatOps.maximumf s (constant S_ .f32 0xFF800000#32) reducesTo_S1x128x512x512_S1x128x512_d3 h_S_))

def fade (t : FVec Ideal S1x128x512x1 .f32) : FVec Ideal S1x128x512x1 .f32 :=
  Host.exp (subf (broadcastInDim S1x128x512x1 ![] bcast_S_S1x128x512x1 (constant S_ .f32 0xFF800000#32)) t)

def weights (s : FVec Ideal S1x128x512x512 .f32) (t : FVec Ideal S1x128x512x1 .f32) : FVec Ideal S1x128x512x512 .f32 :=
  Host.exp (subf s (broadcastInDim S1x128x512x512 ![0, 1, 2, 3] bcast_S1x128x512x1_S1x128x512x512_0_1_2_3 t))

def below (f : FVec Ideal S1x128x512x1 .f32) (p : FVec Ideal S1x128x512x512 .f32) : FVec Ideal S1x128x512x1 .f32 :=
  addf (mulf (broadcastInDim S1x128x512x1 ![] bcast_S_S1x128x512x1 (constant S_ .f32 0x00000000#32)) f)
    (broadcastInDim S1x128x512x1 ![0, 1, 2] bcast_S1x128x512_S1x128x512x1_0_1_2
      (Host.reduceAdd p (constant S_ .f32 0x00000000#32) reducesTo_S1x128x512x512_S1x128x512_d3 h_S_))

def above (f : FVec Ideal S1x128x512x1 .f32) (p : FVec Ideal S1x128x512x512 .f32) (v : FVec Ideal S1x512x128x128 .f32) :
    FVec Ideal S1x512x128x128 .f32 :=
  addf (mulf (broadcastInDim S1x512x128x128 ![] bcast_S_S1x512x128x128 (constant S_ .f32 0x00000000#32))
      (broadcastInDim S1x512x128x128 ![0, 1, 2, 3] bcast_S1x512x128x1_S1x512x128x128_0_1_2_3
        (transpose S1x512x128x1 [0, 2, 1, 3] f transposes_S1x128x512x1_S1x512x128x1_0_2_1_3)))
    (transpose S1x512x128x128 [0, 3, 1, 2]
      (Host.dotGeneral dot_S1x512x128x128_S1x128x512x512_S1x128x128x512_1_3_3_2_02_01 none v p)
      transposes_S1x128x128x512_S1x512x128x128_0_3_1_2)

def quot (a : FVec Ideal S1x512x128x128 .f32) (l : FVec Ideal S1x128x512x1 .f32) : FVec Ideal S1x512x128x128 .f32 :=
  Host.divf a (broadcastInDim S1x512x128x128 ![0, 1, 2, 3] bcast_S1x512x128x1_S1x512x128x128_0_1_2_3
    (transpose S1x512x128x1 [0, 2, 1, 3] l transposes_S1x128x512x1_S1x512x128x1_0_2_1_3))

def attend (q k v : FVec Ideal S1x512x128x128 .f32) : FVec Ideal S1x512x128x128 .f32 :=
  quot (above (fade (top (scores q k))) (weights (scores q k) (top (scores q k))) v)
    (below (fade (top (scores q k))) (weights (scores q k) (top (scores q k))))

def outOf (a : FVec Ideal S1x512x128x128 .f32) (wo : FVec Ideal S16384x1024 .f32) : FVec Ideal S16x32x1024 .bf16 :=
  shapeCast _ (truncf .bf16 (Host.dotGeneral dot_S1x512x16384_S16384x1024_S1x512x1024_2_0_01_1_n_n none
    (shapeCast S1x512x16384 a shapeCasts_S1x512x128x128_S1x512x16384) wo : FVec Ideal S1x512x1024 .f32) bitsLt_bf16_f32) shapeCasts_S1x512x1024_S16x32x1024

theorem out_dot (a : FVec Ideal S1x512x16384 .f32) (wo : FVec Ideal S16384x1024 .f32) (r : Fin 512) (n : Fin 1024) :
    (Host.dotGeneral dot_S1x512x16384_S16384x1024_S1x512x1024_2_0_01_1_n_n none a wo : FVec Ideal S1x512x1024 .f32) (ix3 0 r n)
      = ∑ C : Fin 16384, a (ix3 0 r C) * wo (ix2 C n) := by
  pointwise [dot_S1x512x16384_S16384x1024_S1x512x1024_2_0_01_1_n_n]

theorem out_apply (a : FVec Ideal S1x512x128x128 .f32) (wo : FVec Ideal S16384x1024 .f32) (s : Fin 16) (i : Fin 32) (n : Fin 1024) :
    outOf a wo (ix3 s i n) = ∑ C : Fin 16384,
      a (ix4 0 (⟨32 * s.val + i.val, by omega⟩ : Fin 512) (⟨C.val / 128, by omega⟩ : Fin 128) (⟨C.val % 128, by omega⟩ : Fin 128))
        * wo (ix2 C n) := by
  rw [outOf, shapeCast_apply _ _ _ (ix3 0 (⟨32 * s.val + i.val, by omega⟩ : Fin 512) n) (by
    rw [Shape.rowMajor_val_three, Shape.rowMajor_val_three]
    show (0 * 512 + (32 * s.val + i.val)) * 1024 + n.val = (s.val * 32 + i.val) * 1024 + n.val
    omega)]
  refine (out_dot _ wo _ n).trans (Finset.sum_congr rfl fun C _ => ?_)
  rw [shapeCast_apply _ _ _ (ix4 0 (⟨32 * s.val + i.val, by omega⟩ : Fin 512) (⟨C.val / 128, by omega⟩ : Fin 128)
    (⟨C.val % 128, by omega⟩ : Fin 128)) (by
      rw [Shape.rowMajor_val_three, Shape.rowMajor_val_four]
      show ((0 * 512 + (32 * s.val + i.val)) * 128 + C.val / 128) * 128 + C.val % 128 = (0 * 512 + (32 * s.val + i.val)) * 16384 + C.val
      omega)]

/-- The reference's result in these terms. -/
theorem res_eq (m : (ℓ : Loc nD τ sig) → Buf (Elt Ideal) ℓ) (c : Dev nD) :
    Value.res_main_v40 m c = outOf (attend (qHeads (m ((c : Thread nD τ).loc main_arg0)) (m ((c : Thread nD τ).loc main_arg1)))
      (kvHeads (m ((c : Thread nD τ).loc main_arg0)) (m ((c : Thread nD τ).loc main_arg2)))
      (kvHeads (m ((c : Thread nD τ).loc main_arg0)) (m ((c : Thread nD τ).loc main_arg3)))) (m ((c : Thread nD τ).loc main_arg4)) := rfl

theorem scores_apply (q k : FVec Ideal S1x512x128x128 .f32) (h : Fin 128) (i j : Fin 512) :
    scores q k (ix4 0 h i j) = (∑ e : Fin 128, q (ix4 0 i h e) * k (ix4 0 j h e)) * scale := by
  pointwise [scores, dot_S1x512x128x128_S1x512x128x128_S1x128x512x512_3_3_1_1_02_02]

/-- A maximum over real numbers, at least one, is a real number. -/
theorem fold_real {ι : Type} (t : Finset ι) (ht : t.Nonempty) (f : ι → ℝ) : ∃ M : ℝ, t.fold max (⊥ : EReal) (fun i => (f i : EReal)) = (M : EReal) := by
  obtain ⟨i, _, hi⟩ := t.exists_mem_eq_sup ht fun i => (f i : EReal)
  exact ⟨f i, hi⟩

theorem reduce_real {s t u : Shape} {axes : List (Fin s.rank)} (x : FVec Ideal s .f32) (init : FVec Ideal u .f32) (h : s.ReducesTo axes t)
    (hu : 0 < u.numel) (hi : ∀ k, init k = (⊥ : EReal)) (j : t.Idx) (i : s.Idx) (hij : h.drop i = j) (f : s.Idx → ℝ)
    (hx : ∀ k, x k = (f k : EReal)) :
    ∃ M : ℝ, Host.reduce (FloatOps.maximumf : Ideal .f32 → Ideal .f32 → Ideal .f32) x init h hu j = (M : EReal) := by
  obtain ⟨M, hM⟩ := fold_real (Finset.univ.filter fun i => h.drop i = j) ⟨i, by simp [hij]⟩ f
  refine ⟨M, (Host.reduce_eq_fold _ x init h hu j).trans ?_⟩
  rw [hi, ← hM, show x = fun k => (f k : EReal) from funext hx]
  rfl

theorem low_eq : low = ⊥ := by
  simp [low, Ideal.ofBits, Ideal.ieee]

/-- The same along the last of four axes. -/
theorem reduce_last_real {a b c d : ℕ} {t u : Shape} (x : FVec Ideal ⟨4, ![a, b, c, d + 1]⟩ .f32) (init : FVec Ideal u .f32)
    (h : (⟨4, ![a, b, c, d + 1]⟩ : Shape).ReducesTo [3] t) (hu : 0 < u.numel) (hi : ∀ k, init k = (⊥ : EReal)) (j : t.Idx)
    (f : (⟨4, ![a, b, c, d + 1]⟩ : Shape).Idx → ℝ) (hx : ∀ k, x k = (f k : EReal)) :
    ∃ M : ℝ, Host.reduce (FloatOps.maximumf : Ideal .f32 → Ideal .f32 → Ideal .f32) x init h hu j = (M : EReal) :=
  reduce_real x init h hu hi j _ ((h.fiber_r4_a3 j _).2 ⟨(0 : Fin (d + 1)), rfl⟩) f hx

theorem top_of (R : FVec Ideal S1x128x512 .f32) (h : Fin 128) (i : Fin 512) :
    maximumf (broadcastInDim S1x128x512x1 ![] bcast_S_S1x128x512x1 (constant S_ .f32 0xFF800000#32))
      (broadcastInDim S1x128x512x1 ![0, 1, 2] bcast_S1x128x512_S1x128x512x1_0_1_2 R) (ix4 0 h i 0) = max low (R (ix3 0 h i)) := by
  pointwise

/-- The running maximum of real scores is a real number. -/
theorem top_real (s : FVec Ideal S1x128x512x512 .f32) (f : S1x128x512x512.Idx → ℝ) (hs : ∀ k, s k = (f k : EReal)) (h : Fin 128)
    (i : Fin 512) : ∃ M : ℝ, top s (ix4 0 h i 0) = (M : EReal) := by
  obtain ⟨M, hM⟩ := reduce_last_real (d := 511) s (constant S_ .f32 0xFF800000#32) reducesTo_S1x128x512x512_S1x128x512_d3 h_S_
    (fun _ => low_eq) (ix3 0 h i) f hs
  refine ⟨M, (top_of _ h i).trans ?_⟩
  rw [hM, low_eq]
  exact max_eq_right bot_le

theorem weights_apply (s : FVec Ideal S1x128x512x512 .f32) (t : FVec Ideal S1x128x512x1 .f32) (h : Fin 128) (i j : Fin 512) :
    weights s t (ix4 0 h i j) = Ideal.exp (s (ix4 0 h i j) - t (ix4 0 h i 0)) := by
  pointwise [weights]

theorem below_apply (f : FVec Ideal S1x128x512x1 .f32) (p : FVec Ideal S1x128x512x512 .f32) (h : Fin 128) (i : Fin 512) :
    below f p (ix4 0 h i 0) = ∑ j : Fin 512, p (ix4 0 h i j) := by
  pointwise [below]
  rw [zero_mul, zero_add]

theorem above_apply (f : FVec Ideal S1x128x512x1 .f32) (p : FVec Ideal S1x128x512x512 .f32) (v : FVec Ideal S1x512x128x128 .f32)
    (i : Fin 512) (h d : Fin 128) :
    above f p v (ix4 0 i h d) = ∑ j : Fin 512, v (ix4 0 j h d) * p (ix4 0 h i j) := by
  pointwise [above, dot_S1x512x128x128_S1x128x512x512_S1x128x128x512_1_3_3_2_02_01]
  rw [zero_mul, zero_add]

theorem quot_apply (a : FVec Ideal S1x512x128x128 .f32) (l : FVec Ideal S1x128x512x1 .f32) (i : Fin 512) (h d : Fin 128) :
    quot a l (ix4 0 i h d) = Ideal.div (a (ix4 0 i h d)) (l (ix4 0 h i 0)) := by
  pointwise [quot]

/-- The attention of one head. -/
theorem attend_apply (q k v : FVec Ideal S1x512x128x128 .f32) (i : Fin 512) (h d : Fin 128) :
    attend q k v (ix4 0 i h d) = attnR scale (top (scores q k) (ix4 0 h i 0))
      (fun e => q (ix4 0 i h e)) (fun j e => k (ix4 0 j h e)) (fun j => v (ix4 0 j h d)) := by
  rw [attend, quot_apply, above_apply, below_apply, attnR]
  simp only [weights_apply, scores_apply]

end Cert.RefValue

end
-- ==== Proof.Agree.lean ====
/-
# The two results agree

Both results are the same sum over the 16384 columns of all heads. The kernel's adds each device's 1024 columns first and then the
devices; the reference's divides by the weights' sum after taking the maximum out of the exponents. Where the input and the query
and key weights are finite, the scores are real numbers and a head's attention is the same on both sides.
-/
module

public import proofs.«01_k».proof.Proof.KernelValue
public import proofs.«01_k».proof.Proof.RefValue
public import Idealize.ShloMosaic.Lib.Layout

@[expose] public section

set_option maxRecDepth 16384

noncomputable section

namespace Cert.Agree

open Cert.Attention
open Idealize.ShloMosaic
open Idealize.ShloMosaic.TcCoe
open scoped BigOperators

/-- The scale the scores are multiplied by. -/
abbrev scale : EReal := Ideal.ofBits .f32 0x3DB504F3#32

abbrev Input := (⟨3, ![1, 512, 1024]⟩ : Shape).Idx → EReal
abbrev Mat (a b : ℕ) := (⟨2, ![a, b]⟩ : Shape).Idx → EReal

/-- The scale is a real number. -/
theorem scale_real : ∃ S : ℝ, scale = (S : EReal) := by
  simp only [scale, Ideal.ofBits, Ideal.ieee]
  rw [if_neg (by decide), if_neg (by decide)]
  exact ⟨_, rfl⟩

/-- What column `C` of the 128 heads laid side by side holds in row `r`. -/
def column (X : Input) (WQ : Mat 1024 16384) (WK WV : Mat 1024 4096) (r : Fin 512) (C : Fin 16384) : EReal :=
  attnK (fun e : Fin 128 => (∑ k : Fin 1024, X (ix3 0 r k) * WQ (ix2 k ⟨128 * (C.val / 128) + e.val, by omega⟩)) * scale)
    (fun (j : Fin 512) (e : Fin 128) => ∑ k : Fin 1024, X (ix3 0 j k) * WK (ix2 k ⟨128 * (C.val / 512) + e.val, by omega⟩))
    (fun j => ∑ k : Fin 1024, X (ix3 0 j k) * WV (ix2 k ⟨128 * (C.val / 512) + C.val % 128, by omega⟩))

/-! ## Sums in blocks -/

/-- A sum in `m` blocks of `n`. -/
theorem sum_blocks {N m n : ℕ} (h : N = m * n) (f : Fin N → EReal) :
    ∑ C, f C = ∑ c : Fin m, ∑ d : Fin n, f ⟨n * c.val + d.val, by
      have := c.isLt; have := d.isLt; subst h
      calc n * c.val + d.val < n * c.val + n := by omega
        _ = n * (c.val + 1) := by ring
        _ ≤ n * m := Nat.mul_le_mul_left _ (by omega)
        _ = m * n := Nat.mul_comm _ _⟩ := by
  subst h
  rw [← finProdFinEquiv.sum_comp, Fintype.sum_prod_type]
  refine Finset.sum_congr rfl fun c _ => Finset.sum_congr rfl fun d _ => congrArg f (Fin.ext ?_)
  show d.val + n * c.val = n * c.val + d.val
  omega

/-! ## A device's blocks -/

theorem block_cols (c : Fin 16) (W : Mat 1024 16384) (k n : Fin 1024) :
    Layout.block ⟨2, ![1024, 1024]⟩ ⟨2, ![1024, 16384]⟩ 1 16 c W (by decide) (ix2 k n) = W (ix2 k ⟨1024 * c.val + n.val, by omega⟩) := by
  rw [Layout.block_apply]
  refine congrArg W (funext fun a => Fin.ext ?_)
  rw [Layout.Tiles.idx_val]
  match a with
  | 0 => rfl
  | 1 => show c.val * 1024 + n.val = 1024 * c.val + n.val; omega

theorem block_rows (c : Fin 16) (W : Mat 16384 1024) (k n : Fin 1024) :
    Layout.block ⟨2, ![1024, 1024]⟩ ⟨2, ![16384, 1024]⟩ 0 16 c W (by decide) (ix2 k n) = W (ix2 ⟨1024 * c.val + k.val, by omega⟩ n) := by
  rw [Layout.block_apply]
  refine congrArg W (funext fun a => Fin.ext ?_)
  rw [Layout.Tiles.idx_val]
  match a with
  | 0 => show c.val * 1024 + k.val = 1024 * c.val + k.val; omega
  | 1 => rfl

/-! ## The kernel's side -/

/-- One device's column is one of the whole's. -/
theorem head_column (X : Input) (WQ : Mat 1024 16384) (WK WV : Mat 1024 4096) (wq : Mat 1024 1024) (wk wv : Mat 1024 256) (c : Fin 16)
    (hq : ∀ k n, wq (ix2 k n) = WQ (ix2 k ⟨1024 * c.val + n.val, by omega⟩))
    (hk : ∀ k n, wk (ix2 k n) = WK (ix2 k ⟨256 * c.val + n.val, by omega⟩))
    (hv : ∀ k n, wv (ix2 k n) = WV (ix2 k ⟨256 * c.val + n.val, by omega⟩)) (r : Fin 512) (col : Fin 1024) :
    Heads.headAt (fun i n => (∑ k : Fin 1024, X (ix3 0 i k) * wq (ix2 k n)) * scale)
      (fun j n => ∑ k : Fin 1024, X (ix3 0 j k) * wk (ix2 k n)) (fun j n => ∑ k : Fin 1024, X (ix3 0 j k) * wv (ix2 k n)) r col
      = column X WQ WK WV r ⟨1024 * c.val + col.val, by omega⟩ := by
  unfold Heads.headAt column
  simp only [hq, hk, hv]
  have e1 : ∀ e : Fin 128, 1024 * c.val + (128 * (col.val / 128) + e.val) = 128 * ((1024 * c.val + col.val) / 128) + e.val := by omega
  have e2 : ∀ e : Fin 128, 256 * c.val + (128 * (col.val / 512) + e.val) = 128 * ((1024 * c.val + col.val) / 512) + e.val := by omega
  have e3 : 256 * c.val + (128 * (col.val / 512) + col.val % 128)
      = 128 * ((1024 * c.val + col.val) / 512) + (1024 * c.val + col.val) % 128 := by omega
  simp only [e1, e2, e3]

/-! ## The reference's side -/

/-- The projections of finite input and weights are real numbers. -/
theorem proj_real {ι : Type} [Fintype ι] (x w : ι → EReal) (hx : ∀ i, ∃ r : ℝ, x i = r) (hw : ∀ i, ∃ r : ℝ, w i = r) :
    ∃ r : ℝ, ∑ i, x i * w i = (r : EReal) := by
  choose x' hx' using hx
  choose w' hw' using hw
  refine ⟨∑ i, x' i * w' i, ?_⟩
  rw [← sum_coe]
  refine Finset.sum_congr rfl fun i _ => ?_
  rw [hx', hw', EReal.coe_mul]

/-- One column of the reference's heads is the kernel's. -/
theorem attend_column (X : Input) (WQ : Mat 1024 16384) (WK WV : Mat 1024 4096) (hX : ∀ i, ∃ r : ℝ, X i = r) (hQ : ∀ i, ∃ r : ℝ, WQ i = r)
    (hK : ∀ i, ∃ r : ℝ, WK i = r) (r : Fin 512) (C : Fin 16384) :
    RefValue.attend (RefValue.qHeads X WQ) (RefValue.kvHeads X WK) (RefValue.kvHeads X WV)
      (ix4 0 r (⟨C.val / 128, by omega⟩ : Fin 128) (⟨C.val % 128, by omega⟩ : Fin 128)) = column X WQ WK WV r C := by
  obtain ⟨S, hS⟩ := scale_real
  have hq : ∀ (i : Fin 512) (h e : Fin 128), ∃ t : ℝ, RefValue.qHeads X WQ (ix4 0 i h e) = (t : EReal) := fun i h e => by
    rw [RefValue.q_heads_apply]; exact proj_real _ _ (fun _ => hX _) (fun _ => hQ _)
  have hk : ∀ (i : Fin 512) (h e : Fin 128), ∃ t : ℝ, RefValue.kvHeads X WK (ix4 0 i h e) = (t : EReal) := fun i h e => by
    rw [RefValue.kv_heads_apply]; exact proj_real _ _ (fun _ => hX _) (fun _ => hK _)
  choose q' hq' using hq
  choose k' hk' using hk
  have hs : ∀ (h : Fin 128) (i j : Fin 512), ∃ u : ℝ,
      RefValue.scores (RefValue.qHeads X WQ) (RefValue.kvHeads X WK) (ix4 0 h i j) = (u : EReal) := fun h i j => by
    refine ⟨(∑ e, q' i h e * k' j h e) * S, ?_⟩
    rw [RefValue.scores_apply]
    simp only [hq', hk']
    rw [EReal.coe_mul, ← sum_coe, ← hS]
    rfl
  replace hs : ∀ t, ∃ u : ℝ, RefValue.scores (RefValue.qHeads X WQ) (RefValue.kvHeads X WK) t = (u : EReal) := fun t => by
    have et : t = ix4 0 (t 1) (t 2) (t 3) := by
      funext a
      match a with
      | 0 => exact Fin.ext (Nat.lt_one_iff.mp (t 0).isLt)
      | 1 => rfl
      | 2 => rfl
      | 3 => rfl
    rw [et]
    exact hs (t 1) (t 2) (t 3)
  choose s' hs' using hs
  obtain ⟨M, hM⟩ := RefValue.top_real _ s' hs' (⟨C.val / 128, by omega⟩ : Fin 128) r
  rw [RefValue.attend_apply, hM]
  have hd : C.val / 128 / 4 = C.val / 512 := by omega
  have key := attn_eq (J := 512) S M (q' r ⟨C.val / 128, by omega⟩) (fun j => k' j ⟨C.val / 128, by omega⟩)
    (fun j => RefValue.kvHeads X WV (ix4 0 j (⟨C.val / 128, by omega⟩ : Fin 128) (⟨C.val % 128, by omega⟩ : Fin 128)))
  simp only [← hq', ← hk', ← hS] at key
  refine key.trans ?_
  unfold column
  simp only [RefValue.q_heads_apply, RefValue.kv_heads_apply, hd]

end Cert.Agree

end
-- ==== Proof.Value.lean ====
/-
# The value claim

From memories that hold the same arrays, the kernel's result on every device is the reference's, wherever the input and the query
and key weights are finite.
-/
module

public import proofs.«01_k».proof.Proof.Agree
public import proofs.«01_k».proof.Proof.Frames

@[expose] public section

set_option maxRecDepth 16384

noncomputable section

namespace Cert.ValueClaim

open Cert.Frames Cert.Agree
open Idealize.ShloMosaic Idealize.SL.Sem
open Idealize.ShloMosaic.TcCoe
open scoped BigOperators

/-! ## What the precondition says -/

/-- A number whose absolute value is below infinity is real. -/
theorem real_of_lt (x : EReal) (h : Ideal.cmp .olt (max x (-x)) (Ideal.ofBits .f32 0x7F800000#32) = 1#1) : ∃ r : ℝ, x = (r : EReal) := by
  have top : Ideal.ofBits .f32 0x7F800000#32 = ⊤ := by simp [Ideal.ofBits, Ideal.ieee]
  have lt : max x (-x) < ⊤ := by
    by_contra hn
    rw [top] at h
    simp [Ideal.cmp, hn] at h
  induction x with
  | bot => simp at lt
  | top => simp at lt
  | coe r => exact ⟨r, rfl⟩

/-! ## The results -/

/-- The kernel's result over the whole arrays. -/
theorem kernel_value (m : (ℓ : Loc Cert.KernelIdeal.nD Cert.KernelIdeal.τ Cert.KernelIdeal.sig) → Buf (Elt Ideal) ℓ) (X : Input)
    (WQ : Mat 1024 16384) (WK WV : Mat 1024 4096) (WO : Mat 16384 1024)
    (h0 : ∀ c : Dev Cert.KernelIdeal.nD, m ((c : Thread Cert.KernelIdeal.nD Cert.KernelIdeal.τ).loc Cert.KernelIdeal.main_arg0) = X)
    (h1 : ∀ c : Dev Cert.KernelIdeal.nD, m ((c : Thread Cert.KernelIdeal.nD Cert.KernelIdeal.τ).loc Cert.KernelIdeal.main_arg1)
      = Layout.block ⟨2, ![1024, 1024]⟩ ⟨2, ![1024, 16384]⟩ 1 16 c WQ (by decide))
    (h2 : ∀ c : Dev Cert.KernelIdeal.nD, m ((c : Thread Cert.KernelIdeal.nD Cert.KernelIdeal.τ).loc Cert.KernelIdeal.main_arg2) = WK)
    (h3 : ∀ c : Dev Cert.KernelIdeal.nD, m ((c : Thread Cert.KernelIdeal.nD Cert.KernelIdeal.τ).loc Cert.KernelIdeal.main_arg3) = WV)
    (h4 : ∀ c : Dev Cert.KernelIdeal.nD, m ((c : Thread Cert.KernelIdeal.nD Cert.KernelIdeal.τ).loc Cert.KernelIdeal.main_arg4)
      = Layout.block ⟨2, ![1024, 1024]⟩ ⟨2, ![16384, 1024]⟩ 0 16 c WO (by decide)) (s : Fin 16) (i : Fin 32) (n : Fin 1024) :
    Cert.Exchange.resAt m (ix3 s i n)
      = ∑ C : Fin 16384, column X WQ WK WV ⟨32 * s.val + i.val, by omega⟩ C * WO (ix2 C n) := by
  rw [Cert.KernelValue.res_apply, sum_blocks (m := 16) (n := 1024) rfl]
  refine Finset.sum_congr rfl fun c _ => ?_
  rw [Cert.KernelValue.partial_apply]
  refine Finset.sum_congr rfl fun col _ => congrArg₂ (· * ·) ?_ ?_
  · rw [Cert.KernelValue.x_eq, h0]
    refine head_column X WQ WK WV _ _ _ c (fun k n => ?_) (fun k n => ?_) (fun k n => ?_) _ col
    · rw [Cert.KernelValue.wq_eq, h1]; exact block_cols c WQ k n
    · rw [Cert.KernelValue.wk_apply, h2]
    · rw [Cert.KernelValue.wv_apply, h3]
  · rw [Cert.KernelValue.wo_eq, h4]; exact block_rows c WO col n

/-- The reference's result over the whole arrays. -/
theorem reference_value (m : (ℓ : Loc Cert.ReferenceIdeal.nD Cert.ReferenceIdeal.τ Cert.ReferenceIdeal.sig) → Buf (Elt Ideal) ℓ)
    (c : Dev Cert.ReferenceIdeal.nD) (X : Input) (WQ : Mat 1024 16384) (WK WV : Mat 1024 4096) (WO : Mat 16384 1024)
    (h0 : m ((c : Thread Cert.ReferenceIdeal.nD Cert.ReferenceIdeal.τ).loc Cert.ReferenceIdeal.main_arg0) = X)
    (h1 : m ((c : Thread Cert.ReferenceIdeal.nD Cert.ReferenceIdeal.τ).loc Cert.ReferenceIdeal.main_arg1) = WQ)
    (h2 : m ((c : Thread Cert.ReferenceIdeal.nD Cert.ReferenceIdeal.τ).loc Cert.ReferenceIdeal.main_arg2) = WK)
    (h3 : m ((c : Thread Cert.ReferenceIdeal.nD Cert.ReferenceIdeal.τ).loc Cert.ReferenceIdeal.main_arg3) = WV)
    (h4 : m ((c : Thread Cert.ReferenceIdeal.nD Cert.ReferenceIdeal.τ).loc Cert.ReferenceIdeal.main_arg4) = WO)
    (hX : ∀ i, ∃ r : ℝ, X i = r) (hQ : ∀ i, ∃ r : ℝ, WQ i = r) (hK : ∀ i, ∃ r : ℝ, WK i = r) (s : Fin 16) (i : Fin 32) (n : Fin 1024) :
    (Cert.ReferenceIdeal.Value.res_main_v40 m c : (⟨3, ![16, 32, 1024]⟩ : Shape).Idx → EReal) (ix3 s i n)
      = ∑ C : Fin 16384, column X WQ WK WV ⟨32 * s.val + i.val, by omega⟩ C * WO (ix2 C n) := by
  rw [Cert.RefValue.res_eq, h0, h1, h2, h3, h4]
  refine (Cert.RefValue.out_apply _ WO s i n).trans (Finset.sum_congr rfl fun C _ => congrArg (· * WO (ix2 C n)) ?_)
  exact attend_column X WQ WK WV hX hQ hK _ C

/-- Every entry of the whole query weights is in some device's block. -/
theorem query_real (WQ : Mat 1024 16384)
    (h : ∀ (c : Fin 16) (i), ∃ r : ℝ, Layout.block ⟨2, ![1024, 1024]⟩ ⟨2, ![1024, 16384]⟩ 1 16 c WQ (by decide) i = r) (i) :
    ∃ r : ℝ, WQ i = r := by
  have hi : (i 1).val < 16384 := (i 1).isLt
  obtain ⟨r, hr⟩ := h ⟨(i 1).val / 1024, by omega⟩ (ix2 (i 0) ⟨(i 1).val % 1024, by omega⟩)
  refine ⟨r, Eq.trans ?_ ((block_cols _ WQ _ _).symm.trans hr)⟩
  refine congrArg WQ (funext fun a => Fin.ext ?_)
  match a with
  | 0 => rfl
  | 1 => show (i 1).val = 1024 * ((i 1).val / 1024) + (i 1).val % 1024; omega

/-- The value claim. -/
theorem agree : Cert.algebraic_KernelIdeal_ReferenceIdeal_pre_finite_scores_KernelIdeal := by
  intro m g m' g' hpre hargs
  refine ⟨Cert.ReferenceIdeal.Value.res_main_v40 m' 0, ?_, ?_⟩
  · have hX := fun i => real_of_lt _ (congrFun (hpre 0).1 i)
    have hQ := fun (c : Fin 16) i => real_of_lt _ (congrFun (hpre c).2.1 i)
    have hK := fun i => real_of_lt _ (congrFun (hpre 0).2.2 i)
    rw [(hargs 0).1] at hX
    simp only [(hargs _).2.1] at hQ
    rw [(hargs 0).2.2.1] at hK
    have value : Cert.Exchange.resAt m = Cert.ReferenceIdeal.Value.res_main_v40 m' 0 := by
      funext t
      have et : t = ix3 (t 0) (t 1) (t 2) := by
        funext a
        match a with
        | 0 => rfl
        | 1 => rfl
        | 2 => rfl
      rw [et]
      exact (kernel_value m _ _ _ _ _ (fun c => (hargs c).1) (fun c => (hargs c).2.1) (fun c => (hargs c).2.2.1)
        (fun c => (hargs c).2.2.2.1) (fun c => (hargs c).2.2.2.2) (t 0) (t 1) (t 2)).trans
        (reference_value m' 0 _ _ _ _ _ rfl rfl rfl rfl rfl hX (query_real _ hQ) hK (t 0) (t 1) (t 2)).symm
    refine (θ_run Cert.KernelIdeal.defs _ _).mono (fun r h c => ?_) (Cert.Exchange.run_main (F := Ideal) m g)
    exact ⟨((h.1 c).1).trans value, (h.1 c).2⟩
  · exact (θ_run Cert.ReferenceIdeal.defs _ _).mono (fun r h => h 0) (Cert.ReferenceIdeal.Value.run (F := Ideal) m' g')

end Cert.ValueClaim

end
-- ==== Proof.lean ====
/-
# The claims

The frames are the runs with the values dropped (Proof/Frames.lean). The value claim is the run with its result, read element by
element, against the reference's (Proof/Value.lean).
-/
module

public import proofs.«01_k».proof.Defs
public import proofs.«01_k».proof.Proof.Frames
public import proofs.«01_k».proof.Proof.Value

@[expose] public section

noncomputable section

namespace Cert.Proof

open Idealize.ShloMosaic Idealize.SL.Sem

/-- Everything this certificate claims. -/
theorem claim : Cert.Claim :=
  ⟨Cert.Kernel.Gen.facts, Cert.KernelIdeal.Gen.facts, Cert.ReferenceIdeal.Gen.facts, Cert.Frames.preKernel, Cert.Frames.preReference,
    Cert.Frames.frame_kernel, Cert.Frames.frame_ideal, Cert.Frames.frame_ideal_pre, Cert.Frames.frame_reference,
    Cert.Frames.frame_reference_pre, trivial, Cert.ValueClaim.agree⟩

end Cert.Proof

end
